-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_apart [hPre_nearest_apart : Cert.Pre_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_apart [hPre_nearest_apart : Cert.Pre_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nearest_apart [hKernelIdeal : Cert.KernelIdeal.Facts] [hPre_nearest_apart : Cert.Pre_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_apart [hReferenceIdeal : Cert.ReferenceIdeal.Facts] [hPre_nearest_apart : Cert.Pre_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nearest_apart [hKernelIdeal : Cert.KernelIdeal.Facts] [hReferenceIdeal : Cert.ReferenceIdeal.Facts] [hPre_nearest_apart : Cert.Pre_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_apart : Cert.Pre_nearest_apart.Facts),
    quiescent_Kernel (hKernel := hKernel)
    ∧ quiescent_KernelIdeal (hKernelIdeal := hKernelIdeal)
    ∧ quiescent_KernelIdeal_pre_nearest_apart (hKernelIdeal := hKernelIdeal) (hPre_nearest_apart := hPre_nearest_apart)
    ∧ quiescent_ReferenceIdeal (hReferenceIdeal := hReferenceIdeal)
    ∧ quiescent_ReferenceIdeal_pre_nearest_apart (hReferenceIdeal := hReferenceIdeal) (hPre_nearest_apart := hPre_nearest_apart)
    ∧ preserves_Kernel_KernelIdeal
    ∧ algebraic_KernelIdeal_ReferenceIdeal_pre_nearest_apart (hKernelIdeal := hKernelIdeal) (hReferenceIdeal := hReferenceIdeal) (hPre_nearest_apart := hPre_nearest_apart)
-- ==== Pre_nearest_apart.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩
abbrev S4096x6 : Shape := ⟨2, ![4096, 6]⟩
abbrev S4096x5 : Shape := ⟨2, ![4096, 5]⟩

class Facts : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  sliceFits_S4096x4096_S4096x6 : S4096x4096.Slices (fun _ => 0) S4096x6
  slices_S4096x6_S4096x5_0_0 : S4096x6.Slices ![0, 0] S4096x5
  slices_S4096x6_S4096x5_0_1 : S4096x6.Slices ![0, 1] S4096x5
  bcast_S_S4096x2048 : S_.BroadcastsInDim S4096x2048 (![] : Fin 0 → Fin S4096x2048.rank)
  dot_S4096x2048_S2048x4096_S4096x4096_1_0_0_1_n_n_wf : DotDims.WF S4096x2048 S2048x4096 S4096x4096 [1] [0] [0] [1] [] []

variable [Facts]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def fn_clip {F : FTy → Type} [FloatOps F] (arg0 : FVec F S4096x4096 .f32) (arg1 : FVec F S_ .f32) : FVec F S4096x4096 .f32 :=
  let v0 : FVec F S_ .f32 := id arg1
  let v1 : FVec F S4096x4096 .f32 := broadcastInDim S4096x4096 ![] bcast_S_S4096x4096 v0
  let v2 : FVec F S4096x4096 .f32 := maximumf v1 arg0
  v2

def fn_part1 {F : FTy → Type} [FloatOps F] (main_arg1 : FVec F S4096x2048 .f32) (main_values : FVec F S4096x6 .f32) : IVec S4096x5 1 × IVec S4096x2048 1 :=
  let main_v18 : FVec F S4096x5 .f32 := (extractStridedSlice S4096x5 ![0, 0] · slices_S4096x6_S4096x5_0_0) main_values
  let main_v19 : FVec F S4096x5 .f32 := (extractStridedSlice S4096x5 ![0, 1] · slices_S4096x6_S4096x5_0_1) main_values
  let main_v20 : IVec S4096x5 1 := cmpf .ogt main_v18 main_v19
  let main_v21 : FVec F S4096x2048 .f32 := Host.absf main_arg1
  let main_cst_3 : FVec F S_ .f32 := constant S_ .f32 0x7F800000#32
  let main_v22 : FVec F S4096x2048 .f32 := broadcastInDim S4096x2048 ![] bcast_S_S4096x2048 main_cst_3
  let main_v23 : IVec S4096x2048 1 := cmpf .olt main_v21 main_v22
  (main_v20, main_v23)

def fn {F : FTy → Type} [FloatOps F] (main_arg0 : FVec F S4096x2048 .f32) (main_arg1 : FVec F S4096x2048 .f32) : IVec S4096x5 1 × IVec S4096x2048 1 :=
  let main_v0 : FVec F S4096x2048 .f32 := mulf main_arg0 main_arg0
  let main_cst : FVec F S_ .f32 := constant S_ .f32 0x00000000#32
  let main_v1 : FVec F S4096 .f32 := (fun x v => Host.reduceAdd x v reducesTo_S4096x2048_S4096_d1 h_S_) main_v0 main_cst
  let main_v2 : FVec F S4096x1 .f32 := broadcastInDim S4096x1 ![0] bcast_S4096_S4096x1_0 main_v1
  let main_v3 : FVec F S4096x2048 .f32 := mulf main_arg0 main_arg0
  let main_cst_0 : FVec F S_ .f32 := constant S_ .f32 0x00000000#32
  let main_v4 : FVec F S4096 .f32 := (fun x v => Host.reduceAdd x v reducesTo_S4096x2048_S4096_d1 h_S_) main_v3 main_cst_0
  let main_v5 : FVec F S4096x1 .f32 := broadcastInDim S4096x1 ![0] bcast_S4096_S4096x1_0 main_v4
  let main_v6 : FVec F S1x4096 .f32 := (transpose S1x4096 [1, 0] · transposes_S4096x1_S1x4096_1_0) main_v5
  let main_v7 : FVec F S4096x4096 .f32 := broadcastInDim S4096x4096 ![0, 1] bcast_S4096x1_S4096x4096_0_1 main_v2
  let main_v8 : FVec F S4096x4096 .f32 := broadcastInDim S4096x4096 ![0, 1] bcast_S1x4096_S4096x4096_0_1 main_v6
  let main_v9 : FVec F S4096x4096 .f32 := addf main_v7 main_v8
  let main_v10 : FVec F S2048x4096 .f32 := (transpose S2048x4096 [1, 0] · transposes_S4096x2048_S2048x4096_1_0) main_arg0
  let main_v11 : FVec F S4096x4096 .f32 := (fun l r => Host.dotGeneral dot_S4096x2048_S2048x4096_S4096x4096_1_0_0_1_n_n none l r) main_arg0 main_v10
  let main_cst_1 : FVec F S_ .f32 := constant S_ .f32 0x40000000#32
  let main_v12 : FVec F S4096x4096 .f32 := broadcastInDim S4096x4096 ![] bcast_S_S4096x4096 main_cst_1
  let main_v13 : FVec F S4096x4096 .f32 := mulf main_v12 main_v11
  let main_v14 : FVec F S4096x4096 .f32 := subf main_v9 main_v13
  let main_cst_2 : FVec F S_ .f32 := constant S_ .f32 0x00000000#32
  let main_v15 : FVec F S4096x4096 .f32 := fn_clip (F := F) main_v14 main_cst_2
  let main_v16 : FVec F S4096x4096 .f32 := Host.sqrt main_v15
  let main_v17 : FVec F S4096x4096 .f32 := Host.negf main_v16
  let main_values : FVec F S4096x6 .f32 := (fun x => (Host.topK S4096x6 1 (FloatOps.cmpfTotal .gt) x sliceFits_S4096x4096_S4096x6).1) main_v17
  let main_indices : IVec S4096x6 32 := (fun x => (Host.topK S4096x6 1 (FloatOps.cmpfTotal .gt) x sliceFits_S4096x4096_S4096x6).2) main_v17
  fn_part1 (F := F) main_arg1 main_values
-- ==== Kernel.lean ====
abbrev S4096x2048 : Shape := ⟨2, ![4096, 2048]⟩
abbrev S8192x2048 : Shape := ⟨2, ![8192, 2048]⟩
abbrev S1x1 : Shape := ⟨2, ![1, 1]⟩
abbrev S_ : Shape := ⟨0, ![]⟩
abbrev S512x2048 : Shape := ⟨2, ![512, 2048]⟩
abbrev S1024x2048 : Shape := ⟨2, ![1024, 2048]⟩
abbrev S512x4096 : Shape := ⟨2, ![512, 4096]⟩
abbrev S512x1 : Shape := ⟨2, ![512, 1]⟩
abbrev S1x4096 : Shape := ⟨2, ![1, 4096]⟩
abbrev S512 : Shape := ⟨1, ![512]⟩
abbrev S1x512 : Shape := ⟨2, ![1, 512]⟩
abbrev S512x512 : Shape := ⟨2, ![512, 512]⟩
abbrev S1x1x4096 : Shape := ⟨3, ![1, 1, 4096]⟩
abbrev S1 : Shape := ⟨1, ![1]⟩
abbrev S1x1x1 : Shape := ⟨3, ![1, 1, 1]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8192x2048, .f32⟩
  | .hbm, ⟨3, _⟩ => ⟨S1x1, .f32⟩
  | .hbm, ⟨4, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S512x4096, .f32⟩
  | .local _ .vmem, ⟨5, _⟩ => ⟨S512x1, .f32⟩
  | .local _ .vmem, ⟨6, _⟩ => ⟨S1x4096, .f32⟩
  | .local _ .smem, ⟨0, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c4_i32 : BitVec 32 := 4#32
  let v13 : BitVec 1 := Scalar.cmpi .slt arg1 c4_i32
  let v14 : BitVec 32 := Scalar.extui v13
  let c0_i32 : BitVec 32 := 0#32
  let v15 : BitVec 1 := Scalar.cmpi .ne v14 c0_i32
  v15

def k0_off1 (i : grid0.Coords) : Fin 2 → Nat :=
  let c0_19 : Index := 0#32
  let arg1 : BitVec 32 := BitVec.ofNat 32 (i 1).val
  let c1024_i32 : BitVec 32 := 1024#32
  let v44 : BitVec 32 := Scalar.muli arg1 c1024_i32
  let c0_i32_18 : BitVec 32 := 0#32
  let v45 : BitVec 32 := Scalar.addi v44 c0_i32_18
  let v46 : Index := Scalar.indexCast v45
  ![0, v46.toNat]
def k0_cond2 (i : grid0.Coords) : BitVec 1 :=
  let arg1 : BitVec 32 := BitVec.ofNat 32 (i 1).val
  let c4_i32_5 : BitVec 32 := 4#32
  let v16 : BitVec 1 := Scalar.cmpi .sge arg1 c4_i32_5
  let v17 : BitVec 32 := Scalar.extui v16
  let c0_i32_6 : BitVec 32 := 0#32
  let v18 : BitVec 1 := Scalar.cmpi .ne v17 c0_i32_6
  v18

def k0_cond3 (i : grid0.Coords) : BitVec 1 :=
  let arg0 : BitVec 32 := BitVec.ofNat 32 (i 0).val
  let c0_i32_23 : BitVec 32 := 0#32
  let v54 : BitVec 1 := Scalar.cmpi .eq arg0 c0_i32_23
  let v55 : BitVec 32 := Scalar.extui v54
  let c0_i32_24 : BitVec 32 := 0#32
  let v56 : BitVec 1 := Scalar.cmpi .ne v55 c0_i32_24
  v56

def k0_off2 (i : grid0.Coords) : Fin 2 → Nat :=
  let c0_27 : Index := 0#32
  let arg1 : BitVec 32 := BitVec.ofNat 32 (i 1).val
  let c4_i32_21 : BitVec 32 := 4#32
  let v51 : BitVec 32 := Scalar.subi arg1 c4_i32_21
  let c1024_i32 : BitVec 32 := 1024#32
  let v52 : BitVec 32 := Scalar.muli v51 c1024_i32
  let c0_i32_22 : BitVec 32 := 0#32
  let v53 : BitVec 32 := Scalar.addi v52 c0_i32_22
  let v60 : Index := Scalar.indexCast v53
  ![0, v60.toNat]
def k0_cond4 (i : grid0.Coords) : BitVec 1 :=
  let arg0 : BitVec 32 := BitVec.ofNat 32 (i 0).val
  let c0_i32_25 : BitVec 32 := 0#32
  let v57 : BitVec 1 := Scalar.cmpi .sgt arg0 c0_i32_25
  let v58 : BitVec 32 := Scalar.extui v57
  let c0_i32_26 : BitVec 32 := 0#32
  let v59 : BitVec 1 := Scalar.cmpi .ne v58 c0_i32_26
  v59

def k0_off3 (i : grid0.Coords) : Fin 2 → Nat :=
  let c0_27 : Index := 0#32
  let arg1 : BitVec 32 := BitVec.ofNat 32 (i 1).val
  let c4_i32_21 : BitVec 32 := 4#32
  let v51 : BitVec 32 := Scalar.subi arg1 c4_i32_21
  let c1024_i32 : BitVec 32 := 1024#32
  let v52 : BitVec 32 := Scalar.muli v51 c1024_i32
  let c0_i32_22 : BitVec 32 := 0#32
  let v53 : BitVec 32 := Scalar.addi v52 c0_i32_22
  let v60 : Index := Scalar.indexCast v53
  ![0, v60.toNat]
def k0_cond5 (i : grid0.Coords) : BitVec 1 :=
  let arg1 : BitVec 32 := BitVec.ofNat 32 (i 1).val
  let c4_i32_11 : BitVec 32 := 4#32
  let v30 : BitVec 1 := Scalar.cmpi .slt arg1 c4_i32_11
  let v31 : BitVec 32 := Scalar.extui v30
  let c0_i32_12 : BitVec 32 := 0#32
  let v32 : BitVec 1 := Scalar.cmpi .ne v31 c0_i32_12
  v32

def k0_off4 (i : grid0.Coords) : Fin 2 → Nat :=
  let c0_18 : Index := 0#32
  let arg1 : BitVec 32 := BitVec.ofNat 32 (i 1).val
  let c1024_i32 : BitVec 32 := 1024#32
  let v44 : BitVec 32 := Scalar.muli arg1 c1024_i32
  let c512_i32 : BitVec 32 := 512#32
  let v45 : BitVec 32 := Scalar.addi v44 c512_i32
  let v46 : Index := Scalar.indexCast v45
  ![0, v46.toNat]
def k0_cond6 (i : grid0.Coords) : BitVec 1 :=
  let arg1 : BitVec 32 := BitVec.ofNat 32 (i 1).val
  let c4_i32_13 : BitVec 32 := 4#32
  let v33 : BitVec 1 := Scalar.cmpi .sge arg1 c4_i32_13
  let v34 : BitVec 32 := Scalar.extui v33
  let c0_i32_14 : BitVec 32 := 0#32
  let v35 : BitVec 1 := Scalar.cmpi .ne v34 c0_i32_14
  v35

def k0_cond7 (i : grid0.Coords) : BitVec 1 :=
  let arg0 : BitVec 32 := BitVec.ofNat 32 (i 0).val
  let c0_i32_22 : BitVec 32 := 0#32
  let v54 : BitVec 1 := Scalar.cmpi .eq arg0 c0_i32_22
  let v55 : BitVec 32 := Scalar.extui v54
  let c0_i32_23 : BitVec 32 := 0#32
  let v56 : BitVec 1 := Scalar.cmpi .ne v55 c0_i32_23
  v56

def k0_off5 (i : grid0.Coords) : Fin 2 → Nat :=
  let c0_26 : Index := 0#32
  let arg1 : BitVec 32 := BitVec.ofNat 32 (i 1).val
  let c4_i32_21 : BitVec 32 := 4#32
  let v51 : BitVec 32 := Scalar.subi arg1 c4_i32_21
  let c1024_i32 : BitVec 32 := 1024#32
  let v52 : BitVec 32 := Scalar.muli v51 c1024_i32
  let c512_i32 : BitVec 32 := 512#32
  let v53 : BitVec 32 := Scalar.addi v52 c512_i32
  let v60 : Index := Scalar.indexCast v53
  ![0, v60.toNat]
def k0_cond8 (i : grid0.Coords) : BitVec 1 :=
  let arg0 : BitVec 32 := BitVec.ofNat 32 (i 0).val
  let c0_i32_24 : BitVec 32 := 0#32
  let v57 : BitVec 1 := Scalar.cmpi .sgt arg0 c0_i32_24
  let v58 : BitVec 32 := Scalar.extui v57
  let c0_i32_25 : BitVec 32 := 0#32
  let v59 : BitVec 1 := Scalar.cmpi .ne v58 c0_i32_25
  v59

def k0_off6 (i : grid0.Coords) : Fin 2 → Nat :=
  let c0_26 : Index := 0#32
  let arg1 : BitVec 32 := BitVec.ofNat 32 (i 1).val
  let c4_i32_21 : BitVec 32 := 4#32
  let v51 : BitVec 32 := Scalar.subi arg1 c4_i32_21
  let c1024_i32 : BitVec 32 := 1024#32
  let v52 : BitVec 32 := Scalar.muli v51 c1024_i32
  let c512_i32 : BitVec 32 := 512#32
  let v53 : BitVec 32 := Scalar.addi v52 c512_i32
  let v60 : Index := Scalar.indexCast v53
  ![0, v60.toNat]
def k0_cond10 (i : grid0.Coords) : BitVec 1 :=
  let arg0 : BitVec 32 := BitVec.ofNat 32 (i 0).val
  let c7_i32 : BitVec 32 := 7#32
  let v39 : BitVec 1 := Scalar.cmpi .eq arg0 c7_i32
  let arg1 : BitVec 32 := BitVec.ofNat 32 (i 1).val
  let c7_i32_16 : BitVec 32 := 7#32
  let v40 : BitVec 1 := Scalar.cmpi .eq arg1 c7_i32_16
  let v41 : BitVec 1 := Scalar.andi v39 v40
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩
abbrev S4096x6 : Shape := ⟨2, ![4096, 6]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S2048x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x6, .f32⟩
  | .hbm, ⟨27, _⟩ => ⟨S4096x6, .i32⟩
  | .hbm, ⟨28, _⟩ => ⟨S4096x1, .f32⟩
  | .hbm, ⟨29, _⟩ => ⟨S4096, .f32⟩
  | .hbm, ⟨30, _⟩ => ⟨S4096, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S2048x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x1, .f32⟩
  | .hbm, ⟨55, _⟩ => ⟨S4096x4096, .f32⟩
  | .hbm, ⟨56, _⟩ => ⟨S4096x4096, .i1⟩
  | .hbm, ⟨57, _⟩ => ⟨S_, .i1⟩
  | .hbm, ⟨58, _⟩ => ⟨S4096, .i1⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_values : Ref sig .tc := ⟨.hbm, 26, rfl⟩
abbrev main_indices : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Put.lean ====
/- A band of columns stored into, or read from, a buffer of rows and columns. -/
module

public import Idealize.ShloMosaic.Lib.Pipeline.FrameBody
public import Idealize.ShloMosaic.Lib.Pipeline.Value
public import Idealize.ShloMosaic.Lib.Pointwise.Index

@[expose] public section

noncomputable section

namespace Cert.Band

open Idealize.ShloMosaic

variable {α : Type} {n0 n1 w : ℕ}

/-- The buffer `S` with the band of `w` columns from column `o` replaced by `W`. -/
def putAt (S : (⟨2, ![n0, n1]⟩ : Shape).Idx → α) (o : ℕ) (W : (⟨2, ![n0, w]⟩ : Shape).Idx → α) :
    (⟨2, ![n0, n1]⟩ : Shape).Idx → α := fun y =>
  if h : o ≤ (y 1).val ∧ (y 1).val < o + w then W (ix2 (y 0) ⟨(y 1).val - o, by omega⟩) else S y

/-- The band of `w` columns from column `o`. -/
def getAt (w : ℕ) (S : (⟨2, ![n0, n1]⟩ : Shape).Idx → α) (o : ℕ) (h : o + w ≤ n1) :
    (⟨2, ![n0, w]⟩ : Shape).Idx → α := fun y =>
  S (ix2 (y 0) ⟨o + (y 1).val, by have h1 : (y 1).val < w := (y 1).isLt; omega⟩)

/-- The rows from row `o`. -/
def rowsAt (w : ℕ) (S : (⟨2, ![n0, n1]⟩ : Shape).Idx → α) (o : ℕ) (h : o + w ≤ n0) :
    (⟨2, ![w, n1]⟩ : Shape).Idx → α := fun y =>
  S (ix2 ⟨o + (y 0).val, by have h1 : (y 0).val < w := (y 0).isLt; omega⟩ (y 1))

theorem putAt_in (S : (⟨2, ![n0, n1]⟩ : Shape).Idx → α) (o : ℕ) (W : (⟨2, ![n0, w]⟩ : Shape).Idx → α)
    (r : Fin n0) (c : Fin w) (k : Fin n1) (hk : k.val = o + c.val) : putAt S o W (ix2 r k) = W (ix2 r c) := by
  have h : o ≤ k.val ∧ k.val < o + w := ⟨by omega, by have := c.isLt; omega⟩
  show (if h : o ≤ k.val ∧ k.val < o + w then W (ix2 r ⟨k.val - o, by omega⟩) else _) = _
  rw [dif_pos h]
  congr 2
  exact Fin.ext (by show k.val - o = c.val; omega)

theorem putAt_out (S : (⟨2, ![n0, n1]⟩ : Shape).Idx → α) (o : ℕ) (W : (⟨2, ![n0, w]⟩ : Shape).Idx → α)
    (r : Fin n0) (k : Fin n1) (hk : k.val < o ∨ o + w ≤ k.val) : putAt S o W (ix2 r k) = S (ix2 r k) := by
  have h : ¬ (o ≤ k.val ∧ k.val < o + w) := by omega
  show (if h : o ≤ k.val ∧ k.val < o + w then W (ix2 r ⟨k.val - o, by omega⟩) else _) = _
  rw [dif_neg h]

variable {sig : RefSig} {κ : Kind} {sp : Space} {e : EltTy} {Val : EltTy → Type}

/-- What a buffer holds after a store of a band: the band put into what it held. -/
theorem read_put (v : View sig κ sp ⟨2, ![n0, n1]⟩ e) (f : v.ty.Contents Val)
    (L : List (View.Piece Val ⟨2, ![n0, n1]⟩ e)) (off : Fin 2 → ℕ) (o : ℕ) (hoff : off = ![0, o])
    (inb : ∀ a, off a + (![n0, w] : Fin 2 → ℕ) a ≤ (⟨2, ![n0, n1]⟩ : Shape).size a)
    (W : (⟨2, ![n0, w]⟩ : Shape).Idx → Val e) :
    v.read Val (v.writes Val f (⟨Rect.unit (s := ⟨2, ![n0, n1]⟩) off ![n0, w] inb, W⟩ :: L))
      = putAt (v.read Val (v.writes Val f L)) o W := by
  subst hoff
  funext y
  unfold putAt
  by_cases h : o ≤ (y 1).val ∧ (y 1).val < o + w
  · rw [dif_pos h]
    refine View.read_writes_cons_hit_of_coords v f (Rect.unit (s := ⟨2, ![n0, n1]⟩) ![0, o] ![n0, w] inb) W L (ix2 (y 0) ⟨(y 1).val - o, by omega⟩) y fun a => ?_
    match a with
    | ⟨0, _⟩ => show (y 0).val = 0 + 1 * (y 0).val; omega
    | ⟨1, _⟩ => show (y 1).val = o + 1 * ((y 1).val - o); omega
  · rw [dif_neg h]
    exact View.read_writes_cons_miss_of_axis v f _ L y 1 o w rfl rfl rfl (by omega)

theorem putAt_whole (S W : (⟨2, ![n0, n1]⟩ : Shape).Idx → α) : putAt S 0 W = W := by
  funext y
  have h : (y 1).val < n1 := (y 1).isLt
  unfold putAt
  rw [dif_pos (by omega)]
  refine congrArg W (funext fun a => ?_)
  match a with
  | ⟨0, _⟩ => rfl
  | ⟨1, _⟩ => rfl

theorem ld_getAt (X : (⟨2, ![n0, n1]⟩ : Shape).Idx → Val e) (off : Fin 2 → ℕ) (o : ℕ) (hoff : off = ![0, o])
    (inb : ∀ a, off a + (![n0, w] : Fin 2 → ℕ) a ≤ (⟨2, ![n0, n1]⟩ : Shape).size a) (h : o + w ≤ n1) :
    View.ld X (Rect.unit (s := ⟨2, ![n0, n1]⟩) off ![n0, w] inb) = getAt w X o h := by
  subst hoff
  funext y
  refine congrArg X (funext fun a => Fin.ext ?_)
  match a with
  | ⟨0, _⟩ => show 0 + 1 * (y 0).val = (y 0).val; omega
  | ⟨1, _⟩ => show o + 1 * (y 1).val = o + (y 1).val; omega

theorem ld_rowsAt (X : (⟨2, ![n0, n1]⟩ : Shape).Idx → Val e) (off : Fin 2 → ℕ) (o : ℕ) (hoff : off = ![o, 0])
    (inb : ∀ a, off a + (![w, n1] : Fin 2 → ℕ) a ≤ (⟨2, ![n0, n1]⟩ : Shape).size a) (h : o + w ≤ n0) :
    View.ld X (Rect.unit (s := ⟨2, ![n0, n1]⟩) off ![w, n1] inb) = rowsAt w X o h := by
  subst hoff
  funext y
  refine congrArg X (funext fun a => Fin.ext ?_)
  match a with
  | ⟨0, _⟩ => show o + 1 * (y 0).val = o + (y 0).val; omega
  | ⟨1, _⟩ => show 0 + 1 * (y 1).val = (y 1).val; omega

end Cert.Band

end
-- ==== Proof.IConds.lean ====
/- Where each of the kernel's branches is taken, and the offsets of its stores, as arithmetic of the grid point:
   the first coordinate is the block of rows, the second the block of columns. -/
module

public import proofs.«01_k».proof.Proof.Gen.KernelIdeal.Frame

@[expose] public section

noncomputable section

namespace Cert.KernelIdeal.Hand

open Idealize.ShloMosaic Idealize.ShloMosaic.TcCoe Idealize.ShloMosaic.Tactic
open Cert.KernelIdeal Cert.KernelIdeal.Gen

/-- A chunk of the real columns is stored where the column block is one of the first four. -/
theorem cond1_iff (i : grid0.Coords) : k0_cond1 i = 1#1 ↔ (i 1).val < 4 := by
  unfold k0_cond1; generalize i 1 = k; revert k
  show ∀ k : Fin 8, _
  decide
theorem cond5_iff (i : grid0.Coords) : k0_cond5 i = 1#1 ↔ (i 1).val < 4 := cond1_iff i
/-- A chunk of the generated columns is judged where it is one of the last four. -/
theorem cond2_iff (i : grid0.Coords) : k0_cond2 i = 1#1 ↔ 4 ≤ (i 1).val := by
  unfold k0_cond2; generalize i 1 = k; revert k
  show ∀ k : Fin 8, _
  decide
theorem cond6_iff (i : grid0.Coords) : k0_cond6 i = 1#1 ↔ 4 ≤ (i 1).val := cond2_iff i
/-- The first block of rows. -/
theorem cond3_iff (i : grid0.Coords) : k0_cond3 i = 1#1 ↔ (i 0).val = 0 := by
  unfold k0_cond3; generalize i 0 = k; revert k
  show ∀ k : Fin 8, _
  decide
theorem cond7_iff (i : grid0.Coords) : k0_cond7 i = 1#1 ↔ (i 0).val = 0 := cond3_iff i
/-- A later block of rows. -/
theorem cond4_iff (i : grid0.Coords) : k0_cond4 i = 1#1 ↔ 0 < (i 0).val := by
  unfold k0_cond4; generalize i 0 = k; revert k
  show ∀ k : Fin 8, _
  decide
theorem cond8_iff (i : grid0.Coords) : k0_cond8 i = 1#1 ↔ 0 < (i 0).val := cond4_iff i
/-- The last block of real columns, where the thresholds are found. -/
abbrev cond9 (i : grid0.Coords) : Prop :=
  Scalar.cmpi .ne (Scalar.extui (Scalar.cmpi .eq (BitVec.ofNat 32 (i 1).val) 3#32)) 0#32 = 1#1
theorem cond9_iff (i : grid0.Coords) : cond9 i ↔ (i 1).val = 3 := by
  unfold cond9; generalize i 1 = k; revert k
  show ∀ k : Fin 8, _
  decide
/-- The last point of the grid. -/
theorem cond10_iff (i : grid0.Coords) : k0_cond10 i = 1#1 ↔ (i 0).val = 7 ∧ (i 1).val = 7 := by
  unfold k0_cond10; generalize i 0 = k; generalize i 1 = l; revert k l
  show ∀ k l : Fin 8, _
  decide

theorem off1_eq (i : grid0.Coords) (h : (i 1).val < 4) : k0_off1 i = ![0, (i 1).val * 1024] := by
  unfold k0_off1; revert h; generalize i 1 = k; revert k
  show ∀ k : Fin 8, _
  decide
theorem off4_eq (i : grid0.Coords) (h : (i 1).val < 4) : k0_off4 i = ![0, (i 1).val * 1024 + 512] := by
  unfold k0_off4; revert h; generalize i 1 = k; revert k
  show ∀ k : Fin 8, _
  decide
theorem off2_eq (i : grid0.Coords) (h : 4 ≤ (i 1).val) : k0_off2 i = ![0, ((i 1).val - 4) * 1024] := by
  unfold k0_off2; revert h; generalize i 1 = k; revert k
  show ∀ k : Fin 8, _
  decide
theorem off3_eq (i : grid0.Coords) (h : 4 ≤ (i 1).val) : k0_off3 i = ![0, ((i 1).val - 4) * 1024] := off2_eq i h
theorem off5_eq (i : grid0.Coords) (h : 4 ≤ (i 1).val) : k0_off5 i = ![0, ((i 1).val - 4) * 1024 + 512] := by
  unfold k0_off5; revert h; generalize i 1 = k; revert k
  show ∀ k : Fin 8, _
  decide
theorem off6_eq (i : grid0.Coords) (h : 4 ≤ (i 1).val) : k0_off6 i = ![0, ((i 1).val - 4) * 1024 + 512] := off5_eq i h

/-- The coordinates of point `t`: rows `t / 8`, columns `t % 8`. -/
theorem coords0 (t : Fin cfg0.N) : (grid0.coords t 0).val = t.val / 8 := by
  have ht : t.val < 64 := Nat.lt_of_lt_of_eq t.isLt N_0
  have e0 : (grid0.coords t 0).val = t.val / 8 % 8 := Pipeline.Grid.coords_val t 0 (by decide) rfl
  omega
theorem coords1 (t : Fin cfg0.N) : (grid0.coords t 1).val = t.val % 8 := by
  have e1 : (grid0.coords t 1).val = t.val / 1 % 8 := Pipeline.Grid.coords_val t 1 (by decide) rfl
  omega

end Cert.KernelIdeal.Hand

end
-- ==== Proof.IRun.lean ====
/- One run of the kernel's body, case by case of the branches it takes: from the two blocks it reads and the contents
   of its three scratch buffers to what it leaves in them, as the list of its stores. -/
module

public import proofs.«01_k».proof.Proof.Gen.KernelIdeal.Skeleton
public import proofs.«01_k».proof.Proof.IConds
public import proofs.«01_k».proof.Proof.Put

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Band

variable {F : FTy → Type} [FloatOps F]

local notation "𝕄" => MT nD τ sig Unit (Elt F) ℕ (UR sig nD τ) ℕ

/-- The offsets of the flags' two chunks, for a block of generated columns. -/
instance closedOff3 (i : grid0.Coords) [h : Fact (4 ≤ (i 1).val)] : ClosedOff (k0_off3 i) := ⟨![0, ((i 1).val - 4) * 1024], off3_eq i h.1⟩
instance closedOff6 (i : grid0.Coords) [h : Fact (4 ≤ (i 1).val)] : ClosedOff (k0_off6 i) := ⟨![0, ((i 1).val - 4) * 1024 + 512], off6_eq i h.1⟩

/-- A load of a whole buffer. -/
theorem ld_whole0 (X : Vec F S512x2048 .f32) (inb) :
    View.ld X (Rect.unit (s := S512x2048) ![0, 0] ![512, 2048] inb) = X :=
  View.ld_unit_zero (S := S512x2048) (by funext a; match a with | ⟨0, _⟩ => rfl | ⟨1, _⟩ => rfl) inb X
theorem ld_whole5 (X : Vec F S512x4096 .f32) (inb) :
    View.ld X (Rect.unit (s := S512x4096) ![0, 0] ![512, 4096] inb) = X :=
  View.ld_unit_zero (S := S512x4096) (by funext a; match a with | ⟨0, _⟩ => rfl | ⟨1, _⟩ => rfl) inb X
theorem ld_whole6 (X : Vec F S512x1 .f32) (inb) :
    View.ld X (Rect.unit (s := S512x1) ![0, 0] ![512, 1] inb) = X :=
  View.ld_unit_zero (S := S512x1) (by funext a; match a with | ⟨0, _⟩ => rfl | ⟨1, _⟩ => rfl) inb X
theorem ld_whole7 (X : Vec F S1x4096 .f32) (inb) :
    View.ld X (Rect.unit (s := S1x4096) ![0, 0] ![1, 4096] inb) = X :=
  View.ld_unit_zero (S := S1x4096) (by funext a; match a with | ⟨0, _⟩ => rfl | ⟨1, _⟩ => rfl) inb X
/-- The lower and the upper half of a block of columns. -/
theorem ld_lo (X : Vec F S1024x2048 .f32) (inb) :
    View.ld X (Rect.unit (s := S1024x2048) ![0, 0] ![512, 2048] inb) = rowsAt 512 X 0 (by decide) :=
  ld_rowsAt X _ 0 rfl inb _
theorem ld_hi (X : Vec F S1024x2048 .f32) (inb) :
    View.ld X (Rect.unit (s := S1024x2048) ![512, 0] ![512, 2048] inb) = rowsAt 512 X 512 (by decide) :=
  ld_rowsAt X _ 512 rfl inb _

theorem ld_off3 (i : grid0.Coords) (hj : 4 ≤ (i 1).val) (X : Vec F S1x4096 .f32) (inb) :
    View.ld X (Rect.unit (s := S1x4096) (k0_off3 i) ![1, 512] inb) = getAt 512 X (((i 1).val - 4) * 1024) (by have : (i 1).val < 8 := (i 1).isLt; omega) :=
  ld_getAt X _ _ (off3_eq i hj) inb _

theorem ld_off6 (i : grid0.Coords) (hj : 4 ≤ (i 1).val) (X : Vec F S1x4096 .f32) (inb) :
    View.ld X (Rect.unit (s := S1x4096) (k0_off6 i) ![1, 512] inb) = getAt 512 X (((i 1).val - 4) * 1024 + 512) (by have : (i 1).val < 8 := (i 1).isLt; omega) :=
  ld_getAt X _ _ (off6_eq i hj) inb _

set_option maxHeartbeats 1000000 in
/-- A block of real columns but the last: its two chunks of scores go into the score buffer. -/
theorem runA (c : Dev nD) (i : grid0.Coords) (arg2 : Memref sig .tc .vmem S512x2048 .f32) (harg2 : arg2.IsWhole) (arg3 : Memref sig .tc .vmem S1024x2048 .f32) (harg3 : arg3.IsWhole) (arg4 : Memref sig .tc .smem S1x1 .f32) (harg4 : arg4.IsWhole) (arg5 : Memref sig .tc .vmem S512x4096 .f32) (harg5 : arg5.IsWhole) (arg6 : Memref sig .tc .vmem S512x1 .f32) (harg6 : arg6.IsWhole) (arg7 : Memref sig .tc .vmem S1x4096 .f32) (harg7 : arg7.IsWhole)
    (h1 : k0_cond1 i = 1#1) (h2 : ¬ k0_cond2 i = 1#1) (h5 : k0_cond5 i = 1#1) (h6 : ¬ k0_cond6 i = 1#1) (h9 : ¬ cond9 i) (h10 : ¬ k0_cond10 i = 1#1) (hj : (i 1).val < 4)
    (x0 : Vec F S512x2048 .f32) (x1 : Vec F S1024x2048 .f32) (xs : Vec F S512x4096 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (putAt (putAt xs ((i 1).val * 1024) (k0_pay8 x0 (rowsAt 512 x1 0 (by decide)))) ((i 1).val * 1024 + 512) (k0_pay13 x0 (rowsAt 512 x1 512 (by decide))))) -∗ K ⟨⟩))
      ⊢ wp frame (wpE (defs₀ (F := F)) Variants.none c none) E (cc0__body i arg2 harg2 arg3 harg3 arg4 harg4 arg5 harg5 arg6 harg6 arg7 harg7) K := by
  rw [cc0__body_eq_skeleton]; unfold cc0__body_skel; rw [k0_part2_eq_skeleton]; unfold k0_part2_skel
  unfold owns
  iintro ⟨⟨%f0, %hf0, H0⟩, ⟨%f1, %hf1, H1⟩, ⟨%farg5, %hfarg5, Harg5⟩, Hk⟩
  obtain rfl := harg2.eq_unread hf0; obtain rfl := harg3.eq_unread hf1; obtain rfl := harg5.eq_unread hfarg5
  sl_exec (disch := first | sl_exact h1 | sl_exact h2 | sl_exact h5 | sl_exact h6 | sl_exact h9 | sl_exact h10)
  sl_step
  iapply Hk
  isplitl [H0]
  · iexists _; isplitr
    swap; · iexact H0
    ipureintro; exact harg2.read_unread _
  isplitl [H1]
  · iexists _; isplitr
    swap; · iexact H1
    ipureintro; exact harg3.read_unread _
  iexists _; isplitr
  swap; · iexact Harg5
  · ipureintro; rw [read_put arg5.view _ _ _ _ (off4_eq i hj), read_put arg5.view _ _ _ _ (off1_eq i hj), View.writes_nil, harg5.read_unread]
    simp only [View.readAt_eq_ld, harg2.read_unread, harg3.read_unread, ld_whole0, ld_whole5, ld_whole6, ld_whole7, ld_lo, ld_hi]

set_option maxHeartbeats 1000000 in
/-- The last block of real columns: the scores go into the buffer and the thresholds are found from it. -/
theorem runB (c : Dev nD) (i : grid0.Coords) (arg2 : Memref sig .tc .vmem S512x2048 .f32) (harg2 : arg2.IsWhole) (arg3 : Memref sig .tc .vmem S1024x2048 .f32) (harg3 : arg3.IsWhole) (arg4 : Memref sig .tc .smem S1x1 .f32) (harg4 : arg4.IsWhole) (arg5 : Memref sig .tc .vmem S512x4096 .f32) (harg5 : arg5.IsWhole) (arg6 : Memref sig .tc .vmem S512x1 .f32) (harg6 : arg6.IsWhole) (arg7 : Memref sig .tc .vmem S1x4096 .f32) (harg7 : arg7.IsWhole)
    (h1 : k0_cond1 i = 1#1) (h2 : ¬ k0_cond2 i = 1#1) (h5 : k0_cond5 i = 1#1) (h6 : ¬ k0_cond6 i = 1#1) (h9 : cond9 i) (h10 : ¬ k0_cond10 i = 1#1) (hj : (i 1).val < 4)
    (x0 : Vec F S512x2048 .f32) (x1 : Vec F S1024x2048 .f32) (xs : Vec F S512x4096 .f32) (E : Set ℕ) (K : PUnit → sProp 𝕄) :
    iprop(owns (c : Thread nD τ) arg2 fullShare x0 ∗ owns (c : Thread nD τ) arg3 fullShare x1 ∗ owns (c : Thread nD τ) arg5 fullShare xs ∗ (∃ d, owns (c : Thread nD τ) arg6 fullShare d)
        ∗ (iprop(owns (c : Thread nD τ) arg2 fullShare x0 ∗ owns (c : Thread nD τ) arg3 fullShare x1 ∗ owns (c : Thread nD τ) arg5 fullShare (putAt (putAt xs ((i 1).val * 1024) (k0_pay8 x0 (rowsAt 512 x1 0 (by decide)))) ((i 1).val * 1024 + 512) (k0_pay13 x0 (rowsAt 512 x1 512 (by decide)))) ∗ owns (c : Thread nD τ) arg6 fullShare (k0_pay5 x0 (putAt (putAt xs ((i 1).val * 1024) (k0_pay8 x0 (rowsAt 512 x1 0 (by decide)))) ((i 1).val * 1024 + 512) (k0_pay13 x0 (rowsAt 512 x1 512 (by decide)))))) -∗ K ⟨⟩))
      ⊢ wp frame (wpE (defs₀ (F := F)) Variants.none c none) E (cc0__body i arg2 harg2 arg3 harg3 arg4 harg4 arg5 harg5 arg6 harg6 arg7 harg7) K := by
  rw [cc0__body_eq_skeleton]; unfold cc0__body_skel; rw [k0_part2_eq_skeleton]; unfold k0_part2_skel
  rw [k0_part1_eq_skeleton]; unfold k0_part1_skel
  unfold owns
  iintro ⟨⟨%f0, %hf0, H0⟩, ⟨%f1, %hf1, H1⟩, ⟨%farg5, %hfarg5, Harg5⟩, ⟨%darg6, %farg6, -, Harg6⟩, Hk⟩
  obtain rfl := harg2.eq_unread hf0; obtain rfl := harg3.eq_unread hf1; obtain rfl := harg5.eq_unread hfarg5
  sl_exec (disch := first | sl_exact h1 | sl_exact h2 | sl_exact h5 | sl_exact h6 | sl_exact h9 | sl_exact h10)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [Harg5]
  · iexists _; isplitr
    swap; · iexact Harg5
    ipureintro; sl_unfold_run_names; rw [read_put arg5.view _ _ _ _ (off4_eq i hj), read_put arg5.view _ _ _ _ (off1_eq i hj), View.writes_nil, harg5.read_unread]
    simp only [View.readAt_eq_ld, harg2.read_unread, harg3.read_unread, ld_whole0, ld_whole5, ld_whole6, ld_whole7, ld_lo, ld_hi]
  iexists _; isplitr
  swap; · iexact Harg6
  · ipureintro; sl_unfold_run_names; rw [read_put arg6.view _ _ _ 0 rfl, putAt_whole]
    simp only [View.readAt_eq_ld, harg2.read_unread, harg3.read_unread, ld_whole0, ld_whole5, ld_whole6, ld_whole7, ld_lo, ld_hi, harg5.read_unread, View.writes_nil,
      read_put arg5.view _ _ _ _ (off4_eq i hj), read_put arg5.view _ _ _ _ (off1_eq i hj)]

set_option maxHeartbeats 1000000 in
/-- The first block of rows against a block of generated columns: the flags are written. -/
theorem runC (c : Dev nD) (i : grid0.Coords) (arg2 : Memref sig .tc .vmem S512x2048 .f32) (harg2 : arg2.IsWhole) (arg3 : Memref sig .tc .vmem S1024x2048 .f32) (harg3 : arg3.IsWhole) (arg4 : Memref sig .tc .smem S1x1 .f32) (harg4 : arg4.IsWhole) (arg5 : Memref sig .tc .vmem S512x4096 .f32) (harg5 : arg5.IsWhole) (arg6 : Memref sig .tc .vmem S512x1 .f32) (harg6 : arg6.IsWhole) (arg7 : Memref sig .tc .vmem S1x4096 .f32) (harg7 : arg7.IsWhole)
    (h1 : ¬ k0_cond1 i = 1#1) (h2 : k0_cond2 i = 1#1) (h3 : k0_cond3 i = 1#1) (h4 : ¬ k0_cond4 i = 1#1) (h5 : ¬ k0_cond5 i = 1#1) (h6 : k0_cond6 i = 1#1) (h7 : k0_cond7 i = 1#1) (h8 : ¬ k0_cond8 i = 1#1) (h9 : ¬ cond9 i) (h10 : ¬ k0_cond10 i = 1#1) (hj : 4 ≤ (i 1).val)
    (x0 : Vec F S512x2048 .f32) (x1 : Vec F S1024x2048 .f32) (th : Vec F S512x1 .f32) (hb : Vec F S1x4096 .f32) (E : Set ℕ) (K : PUnit → sProp 𝕄) :
    iprop(owns (c : Thread nD τ) arg2 fullShare x0 ∗ owns (c : Thread nD τ) arg3 fullShare x1 ∗ owns (c : Thread nD τ) arg6 fullShare th ∗ owns (c : Thread nD τ) arg7 fullShare hb
        ∗ (iprop(owns (c : Thread nD τ) arg2 fullShare x0 ∗ owns (c : Thread nD τ) arg3 fullShare x1 ∗ owns (c : Thread nD τ) arg6 fullShare th ∗ owns (c : Thread nD τ) arg7 fullShare (putAt (putAt hb (((i 1).val - 4) * 1024) (k0_pay10 x0 (rowsAt 512 x1 0 (by decide)) th)) (((i 1).val - 4) * 1024 + 512) (k0_pay2 (k0_pay12 x0 (rowsAt 512 x1 512 (by decide))) th))) -∗ K ⟨⟩))
      ⊢ wp frame (wpE (defs₀ (F := F)) Variants.none c none) E (cc0__body i arg2 harg2 arg3 harg3 arg4 harg4 arg5 harg5 arg6 harg6 arg7 harg7) K := by
  rw [cc0__body_eq_skeleton]; unfold cc0__body_skel; rw [k0_part2_eq_skeleton]; unfold k0_part2_skel
  unfold owns
  iintro ⟨⟨%f0, %hf0, H0⟩, ⟨%f1, %hf1, H1⟩, ⟨%farg6, %hfarg6, Harg6⟩, ⟨%farg7, %hfarg7, Harg7⟩, Hk⟩
  obtain rfl := harg2.eq_unread hf0; obtain rfl := harg3.eq_unread hf1; obtain rfl := harg6.eq_unread hfarg6; obtain rfl := harg7.eq_unread hfarg7
  sl_exec (disch := first | sl_exact h1 | sl_exact h2 | sl_exact h3 | sl_exact h4 | sl_exact h5 | sl_exact h6 | sl_exact h7 | sl_exact h8 | sl_exact h9 | sl_exact h10)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [Harg6]
  · iexists _; isplitr
    swap; · iexact Harg6
    ipureintro; exact harg6.read_unread _
  iexists _; isplitr
  swap; · iexact Harg7
  · ipureintro; sl_unfold_run_names; rw [read_put arg7.view _ _ _ _ (off5_eq i hj), read_put arg7.view _ _ _ _ (off2_eq i hj), View.writes_nil, harg7.read_unread]
    simp only [View.readAt_eq_ld, harg2.read_unread, harg3.read_unread, harg6.read_unread, ld_whole0, ld_whole5, ld_whole6, ld_whole7, ld_lo, ld_hi]

set_option maxHeartbeats 1000000 in
/-- A later block of rows, not the last point: the flags are joined to those so far. -/
theorem runD (c : Dev nD) (i : grid0.Coords) (arg2 : Memref sig .tc .vmem S512x2048 .f32) (harg2 : arg2.IsWhole) (arg3 : Memref sig .tc .vmem S1024x2048 .f32) (harg3 : arg3.IsWhole) (arg4 : Memref sig .tc .smem S1x1 .f32) (harg4 : arg4.IsWhole) (arg5 : Memref sig .tc .vmem S512x4096 .f32) (harg5 : arg5.IsWhole) (arg6 : Memref sig .tc .vmem S512x1 .f32) (harg6 : arg6.IsWhole) (arg7 : Memref sig .tc .vmem S1x4096 .f32) (harg7 : arg7.IsWhole)
    (h1 : ¬ k0_cond1 i = 1#1) (h2 : k0_cond2 i = 1#1) (h3 : ¬ k0_cond3 i = 1#1) (h4 : k0_cond4 i = 1#1) (h5 : ¬ k0_cond5 i = 1#1) (h6 : k0_cond6 i = 1#1) (h7 : ¬ k0_cond7 i = 1#1) (h8 : k0_cond8 i = 1#1) (h9 : ¬ cond9 i) (h10 : ¬ k0_cond10 i = 1#1) (hj : 4 ≤ (i 1).val)
    (x0 : Vec F S512x2048 .f32) (x1 : Vec F S1024x2048 .f32) (th : Vec F S512x1 .f32) (hb : Vec F S1x4096 .f32) (E : Set ℕ) (K : PUnit → sProp 𝕄) :
    iprop(owns (c : Thread nD τ) arg2 fullShare x0 ∗ owns (c : Thread nD τ) arg3 fullShare x1 ∗ owns (c : Thread nD τ) arg6 fullShare th ∗ owns (c : Thread nD τ) arg7 fullShare hb
        ∗ (iprop(owns (c : Thread nD τ) arg2 fullShare x0 ∗ owns (c : Thread nD τ) arg3 fullShare x1 ∗ owns (c : Thread nD τ) arg6 fullShare th ∗ owns (c : Thread nD τ) arg7 fullShare (putAt (putAt hb (((i 1).val - 4) * 1024) (k0_pay11 x0 (rowsAt 512 x1 0 (by decide)) th (getAt 512 hb (((i 1).val - 4) * 1024) (by have : (i 1).val < 8 := (i 1).isLt; omega)))) (((i 1).val - 4) * 1024 + 512) (k0_pay3 (k0_pay12 x0 (rowsAt 512 x1 512 (by decide))) th (getAt 512 hb (((i 1).val - 4) * 1024 + 512) (by have : (i 1).val < 8 := (i 1).isLt; omega))))) -∗ K ⟨⟩))
      ⊢ wp frame (wpE (defs₀ (F := F)) Variants.none c none) E (cc0__body i arg2 harg2 arg3 harg3 arg4 harg4 arg5 harg5 arg6 harg6 arg7 harg7) K := by
  have hi8 : (i 1).val < 8 := (i 1).isLt
  haveI : Fact (4 ≤ (i 1).val) := ⟨hj⟩
  rw [cc0__body_eq_skeleton]; unfold cc0__body_skel; rw [k0_part2_eq_skeleton]; unfold k0_part2_skel
  unfold owns
  iintro ⟨⟨%f0, %hf0, H0⟩, ⟨%f1, %hf1, H1⟩, ⟨%farg6, %hfarg6, Harg6⟩, ⟨%farg7, %hfarg7, Harg7⟩, Hk⟩
  obtain rfl := harg2.eq_unread hf0; obtain rfl := harg3.eq_unread hf1; obtain rfl := harg6.eq_unread hfarg6; obtain rfl := harg7.eq_unread hfarg7
  sl_exec (disch := first | sl_exact h1 | sl_exact h2 | sl_exact h3 | sl_exact h4 | sl_exact h5 | sl_exact h6 | sl_exact h7 | sl_exact h8 | sl_exact h9 | sl_exact h10)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [Harg6]
  · iexists _; isplitr
    swap; · iexact Harg6
    ipureintro; exact harg6.read_unread _
  iexists _; isplitr
  swap; · iexact Harg7
  · ipureintro; sl_unfold_run_names; rw [read_put arg7.view _ _ _ _ (off6_eq i hj), read_put arg7.view _ _ _ _ (off3_eq i hj), View.writes_nil, harg7.read_unread]
    simp only [View.readAt_eq_ld, harg2.read_unread, harg3.read_unread, harg6.read_unread, harg7.read_unread, ld_whole0, ld_whole5, ld_whole6, ld_whole7, ld_lo, ld_hi,
      read_put arg7.view _ _ _ _ (off3_eq i hj), View.writes_nil, ld_off3 i hj, ld_off6 i hj]

set_option maxHeartbeats 1000000 in
/-- The last point: the flags are joined to those so far and their mean is stored. -/
theorem runE (c : Dev nD) (i : grid0.Coords) (arg2 : Memref sig .tc .vmem S512x2048 .f32) (harg2 : arg2.IsWhole) (arg3 : Memref sig .tc .vmem S1024x2048 .f32) (harg3 : arg3.IsWhole) (arg4 : Memref sig .tc .smem S1x1 .f32) (harg4 : arg4.IsWhole) (arg5 : Memref sig .tc .vmem S512x4096 .f32) (harg5 : arg5.IsWhole) (arg6 : Memref sig .tc .vmem S512x1 .f32) (harg6 : arg6.IsWhole) (arg7 : Memref sig .tc .vmem S1x4096 .f32) (harg7 : arg7.IsWhole)
    (h1 : ¬ k0_cond1 i = 1#1) (h2 : k0_cond2 i = 1#1) (h3 : ¬ k0_cond3 i = 1#1) (h4 : k0_cond4 i = 1#1) (h5 : ¬ k0_cond5 i = 1#1) (h6 : k0_cond6 i = 1#1) (h7 : ¬ k0_cond7 i = 1#1) (h8 : k0_cond8 i = 1#1) (h9 : ¬ cond9 i) (h10 : k0_cond10 i = 1#1) (hj : 4 ≤ (i 1).val)
    (x0 : Vec F S512x2048 .f32) (x1 : Vec F S1024x2048 .f32) (th : Vec F S512x1 .f32) (hb : Vec F S1x4096 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg6 fullShare th ∗ owns (c : Thread nD τ) arg7 fullShare hb
        ∗ (iprop(owns (c : Thread nD τ) arg2 fullShare x0 ∗ owns (c : Thread nD τ) arg3 fullShare x1 ∗ owns (c : Thread nD τ) arg4 fullShare (fun _ => k0_pay4 (putAt (putAt hb (((i 1).val - 4) * 1024) (k0_pay11 x0 (rowsAt 512 x1 0 (by decide)) th (getAt 512 hb (((i 1).val - 4) * 1024) (by have : (i 1).val < 8 := (i 1).isLt; omega)))) (((i 1).val - 4) * 1024 + 512) (k0_pay3 (k0_pay12 x0 (rowsAt 512 x1 512 (by decide))) th (getAt 512 hb (((i 1).val - 4) * 1024 + 512) (by have : (i 1).val < 8 := (i 1).isLt; omega))))) ∗ owns (c : Thread nD τ) arg6 fullShare th ∗ owns (c : Thread nD τ) arg7 fullShare (putAt (putAt hb (((i 1).val - 4) * 1024) (k0_pay11 x0 (rowsAt 512 x1 0 (by decide)) th (getAt 512 hb (((i 1).val - 4) * 1024) (by have : (i 1).val < 8 := (i 1).isLt; omega)))) (((i 1).val - 4) * 1024 + 512) (k0_pay3 (k0_pay12 x0 (rowsAt 512 x1 512 (by decide))) th (getAt 512 hb (((i 1).val - 4) * 1024 + 512) (by have : (i 1).val < 8 := (i 1).isLt; omega))))) -∗ K ⟨⟩))
      ⊢ wp frame (wpE (defs₀ (F := F)) Variants.none c none) E (cc0__body i arg2 harg2 arg3 harg3 arg4 harg4 arg5 harg5 arg6 harg6 arg7 harg7) K := by
  have hi8 : (i 1).val < 8 := (i 1).isLt
  haveI : Fact (4 ≤ (i 1).val) := ⟨hj⟩
  rw [cc0__body_eq_skeleton]; unfold cc0__body_skel; rw [k0_part2_eq_skeleton]; unfold k0_part2_skel
  unfold owns
  iintro ⟨⟨%f0, %hf0, H0⟩, ⟨%f1, %hf1, H1⟩, ⟨%darg4, %farg4, -, Harg4⟩, ⟨%farg6, %hfarg6, Harg6⟩, ⟨%farg7, %hfarg7, Harg7⟩, Hk⟩
  obtain rfl := harg2.eq_unread hf0; obtain rfl := harg3.eq_unread hf1; obtain rfl := harg6.eq_unread hfarg6; obtain rfl := harg7.eq_unread hfarg7
  sl_exec (disch := first | sl_exact h1 | sl_exact h2 | sl_exact h3 | sl_exact h4 | sl_exact h5 | sl_exact h6 | sl_exact h7 | sl_exact h8 | sl_exact h9 | sl_exact h10)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [Harg4]
  · iexists _; isplitr
    swap; · iexact Harg4
    ipureintro; sl_unfold_run_names; rw [read_put arg4.view _ _ _ 0 rfl, putAt_whole]
    simp only [View.readAt_eq_ld, harg2.read_unread, harg3.read_unread, harg6.read_unread, harg7.read_unread, ld_whole0, ld_whole5, ld_whole6, ld_whole7, ld_lo, ld_hi,
      read_put arg7.view _ _ _ _ (off6_eq i hj), read_put arg7.view _ _ _ _ (off3_eq i hj), View.writes_nil, ld_off3 i hj, ld_off6 i hj]
    rfl
  isplitl [Harg6]
  · iexists _; isplitr
    swap; · iexact Harg6
    ipureintro; exact harg6.read_unread _
  iexists _; isplitr
  swap; · iexact Harg7
  · ipureintro; sl_unfold_run_names; rw [read_put arg7.view _ _ _ _ (off6_eq i hj), read_put arg7.view _ _ _ _ (off3_eq i hj), View.writes_nil, harg7.read_unread]
    simp only [View.readAt_eq_ld, harg2.read_unread, harg3.read_unread, harg6.read_unread, harg7.read_unread, ld_whole0, ld_whole5, ld_whole6, ld_whole7, ld_lo, ld_hi,
      read_put arg7.view _ _ _ _ (off3_eq i hj), View.writes_nil, ld_off3 i hj, ld_off6 i hj]

end Cert.KernelIdeal.Hand

end
-- ==== Proof.IState.lean ====
/- What the kernel's scratch buffers hold between grid points: the scores of the current block of rows against the
   real columns so far, the block's thresholds once they are found, and each generated column's flags, joined over the
   blocks of rows so far. -/
module

public import proofs.«01_k».proof.Proof.Gen.KernelIdeal.Skeleton
public import proofs.«01_k».proof.Proof.Put

@[expose] public section

set_option maxRecDepth 16384

noncomputable section

namespace Cert.KernelIdeal.Hand

open Idealize.ShloMosaic
open Cert.KernelIdeal Cert.KernelIdeal.Gen Cert.Band

variable {F : FTy → Type} [FloatOps F]
variable (A : Vec F S4096x2048 .f32) (B : Vec F S8192x2048 .f32)

/-- The `i`-th block of 512 rows. -/
def rowBlock (i : ℕ) : Vec F S512x2048 .f32 := rowsAt 512 A (512 * (i % 8)) (by omega)
/-- The `q`-th chunk of 512 columns: the real points' first, then the generated points'. -/
def colChunk (q : ℕ) : Vec F S512x2048 .f32 := rowsAt 512 B (512 * (q % 16)) (by omega)

/-- The scores of block `i` against all real columns. -/
def scores (i : ℕ) : Vec F S512x4096 .f32 := fun y =>
  k0_pay7 (rowBlock A i) (colChunk B ((y 1).val / 512)) (ix2 (y 0) ⟨(y 1).val % 512, Nat.mod_lt _ (by decide)⟩)
/-- Its rows' thresholds. -/
def thresholds (i : ℕ) : Vec F S512x1 .f32 := k0_pay5 (rowBlock A i) (scores A B i)
/-- The flags of the `q`-th chunk of generated columns, joined over blocks `0` to `n`. -/
def flags (q : ℕ) : ℕ → Vec F S1x512 .f32
  | 0 => k0_pay10 (rowBlock A 0) (colChunk B (8 + q)) (thresholds A B 0)
  | n + 1 => k0_pay11 (rowBlock A (n + 1)) (colChunk B (8 + q)) (thresholds A B (n + 1)) (flags q n)
/-- All generated columns' flags, over all blocks of rows. -/
def allFlags : Vec F S1x4096 .f32 := fun y =>
  flags A B ((y 1).val / 512) 7 (ix2 (y 0) ⟨(y 1).val % 512, Nat.mod_lt _ (by decide)⟩)

/-- How many blocks of rows are joined in chunk `q`'s flags before point `n`. -/
def joined (n q : ℕ) : ℕ := n / 8 + if 4 ≤ n % 8 ∧ q < 2 * (n % 8 - 4) then 1 else 0

/-- What the three buffers hold before point `n`. -/
structure Inv (n : ℕ) (S : Vec F S512x4096 .f32) (T : Vec F S512x1 .f32) (H : Vec F S1x4096 .f32) : Prop where
  score : ∀ (q : ℕ) (r c : Fin 512) (k : Fin 4096), q < 2 * (n % 8) → q < 8 → k.val = 512 * q + c.val →
    S (ix2 r k) = k0_pay7 (rowBlock A (n / 8)) (colChunk B q) (ix2 r c)
  thr : 4 ≤ n % 8 → T = thresholds A B (n / 8)
  hit : ∀ (q e : ℕ) (r : Fin 1) (c : Fin 512) (k : Fin 4096), q < 8 → joined n q = e + 1 → k.val = 512 * q + c.val →
    H (ix2 r k) = flags A B q e (ix2 r c)

variable {A B}

/-- Before the first point nothing is said. -/
theorem Inv.init (S : Vec F S512x4096 .f32) (T : Vec F S512x1 .f32) (H : Vec F S1x4096 .f32) : Inv A B 0 S T H :=
  ⟨fun q r c k h => by omega, fun h => by omega, fun q e r c k _ h => by simp [joined] at h⟩

variable {n : ℕ} {S : Vec F S512x4096 .f32} {T : Vec F S512x1 .f32} {H : Vec F S1x4096 .f32}

/-- The score buffer after a block of real columns. -/
abbrev scored (S : Vec F S512x4096 .f32) (j : ℕ) (x0 b0 b1 : Vec F S512x2048 .f32) : Vec F S512x4096 .f32 :=
  putAt (putAt S (j * 1024) (k0_pay8 x0 b0)) (j * 1024 + 512) (k0_pay13 x0 b1)

theorem pay8_eq (x y : Vec F S512x2048 .f32) : k0_pay8 x y = k0_pay7 x y := by
  unfold k0_pay8; exact shapeCast_self _ _
theorem pay13_eq (x y : Vec F S512x2048 .f32) : k0_pay13 x y = k0_pay7 x y := by
  unfold k0_pay13; exact (shapeCast_self _ _).trans rfl

theorem Inv.scored_at (h : Inv A B n S T H) (hj : n % 8 < 4) (q : ℕ) (r c : Fin 512) (k : Fin 4096)
    (hq : q < 2 * (n % 8 + 1)) (hk : k.val = 512 * q + c.val) :
    scored S (n % 8) (rowBlock A (n / 8)) (colChunk B (2 * (n % 8))) (colChunk B (2 * (n % 8) + 1)) (ix2 r k)
      = k0_pay7 (rowBlock A (n / 8)) (colChunk B q) (ix2 r c) := by
  have hc := c.isLt
  by_cases h1 : q = 2 * (n % 8) + 1
  · subst h1
    exact (putAt_in _ _ _ r c k (by omega)).trans (congrFun (pay13_eq _ _) _)
  · rw [scored, putAt_out _ _ _ r k (by omega)]
    by_cases h0 : q = 2 * (n % 8)
    · subst h0
      exact (putAt_in _ _ _ r c k (by omega)).trans (congrFun (pay8_eq _ _) _)
    · rw [putAt_out _ _ _ r k (by omega)]
      exact h.score q r c k (by omega) (by omega) hk

/-- After a block of real columns but the last. -/
theorem Inv.stepA (h : Inv A B n S T H) (hj : n % 8 < 3) :
    Inv A B (n + 1) (scored S (n % 8) (rowBlock A (n / 8)) (colChunk B (2 * (n % 8))) (colChunk B (2 * (n % 8) + 1))) T H := by
  have e0 : (n + 1) / 8 = n / 8 := by omega
  have e1 : (n + 1) % 8 = n % 8 + 1 := by omega
  refine ⟨fun q r c k hq _ hk => ?_, fun h4 => by omega, fun q e r c k hq he hk => ?_⟩
  · rw [e0]; exact h.scored_at (by omega) q r c k (by omega) hk
  · refine h.hit q e r c k hq ?_ hk
    unfold joined at he ⊢
    rw [if_neg (by omega)] at he ⊢
    omega

/-- After the last block of real columns the buffer holds all the scores, -/
theorem Inv.scored_eq (h : Inv A B n S T H) (hj : n % 8 = 3) :
    scored S (n % 8) (rowBlock A (n / 8)) (colChunk B (2 * (n % 8))) (colChunk B (2 * (n % 8) + 1)) = scores A B (n / 8) := by
  funext y
  have hy : (y 1).val < 4096 := (y 1).isLt
  have ey : y = ix2 (n0 := 512) (n1 := 4096) (y 0) (y 1) := eq_ix2 y
  conv_lhs => rw [ey]
  exact h.scored_at (by omega) ((y 1).val / 512) (y 0) ⟨(y 1).val % 512, Nat.mod_lt _ (by decide)⟩ (y 1) (by omega)
    (Nat.div_add_mod (y 1).val 512).symm

/-- and the thresholds are found from it. -/
theorem Inv.stepB (h : Inv A B n S T H) (hj : n % 8 = 3) :
    Inv A B (n + 1) (scored S (n % 8) (rowBlock A (n / 8)) (colChunk B (2 * (n % 8))) (colChunk B (2 * (n % 8) + 1)))
      (k0_pay5 (rowBlock A (n / 8)) (scored S (n % 8) (rowBlock A (n / 8)) (colChunk B (2 * (n % 8))) (colChunk B (2 * (n % 8) + 1)))) H := by
  have e0 : (n + 1) / 8 = n / 8 := by omega
  have e1 : (n + 1) % 8 = n % 8 + 1 := by omega
  refine ⟨fun q r c k hq _ hk => ?_, fun h4 => ?_, fun q e r c k hq he hk => ?_⟩
  · rw [e0]; exact h.scored_at (by omega) q r c k (by omega) hk
  · rw [e0, h.scored_eq hj]; rfl
  · refine h.hit q e r c k hq ?_ hk
    unfold joined at he ⊢
    rw [if_neg (by omega)] at he ⊢
    omega

/-- Two bands of flags stored at a block of generated columns: what is asked of them for the invariant to go on. -/
theorem Inv.step_flags (h : Inv A B n S T H) (hj : 4 ≤ n % 8) (w0 w1 : Vec F S1x512 .f32)
    (h0 : w0 = flags A B (2 * (n % 8 - 4)) (n / 8)) (h1 : w1 = flags A B (2 * (n % 8 - 4) + 1) (n / 8)) :
    Inv A B (n + 1) S T (putAt (putAt H ((n % 8 - 4) * 1024) w0) ((n % 8 - 4) * 1024 + 512) w1) := by
  refine ⟨fun q r c k hq hq8 hk => ?_, fun h4 => ?_, fun q e r c k hq he hk => ?_⟩
  · rw [show (n + 1) / 8 = n / 8 by omega]
    exact h.score q r c k (by omega) hq8 hk
  · rw [show (n + 1) / 8 = n / 8 by omega]
    exact h.thr hj
  · have hc := c.isLt
    by_cases q1 : q = 2 * (n % 8 - 4) + 1
    · subst q1
      refine (putAt_in _ _ _ r c k (by omega)).trans ?_
      rw [h1]
      have : e = n / 8 := by unfold joined at he; split at he <;> omega
      rw [this]
    · rw [putAt_out _ _ _ r k (by omega)]
      by_cases q0 : q = 2 * (n % 8 - 4)
      · subst q0
        refine (putAt_in _ _ _ r c k (by omega)).trans ?_
        rw [h0]
        have : e = n / 8 := by unfold joined at he; split at he <;> omega
        rw [this]
      · rw [putAt_out _ _ _ r k (by omega)]
        refine h.hit q e r c k hq ?_ hk
        unfold joined at he ⊢
        split at he <;> split <;> omega

/-- After a block of generated columns, at the first block of rows. -/
theorem Inv.stepC (h : Inv A B n S T H) (hj : 4 ≤ n % 8) (hi : n / 8 = 0) :
    Inv A B (n + 1) S T (putAt (putAt H ((n % 8 - 4) * 1024) (k0_pay10 (rowBlock A (n / 8)) (colChunk B (2 * (n % 8))) T))
      ((n % 8 - 4) * 1024 + 512) (k0_pay2 (k0_pay12 (rowBlock A (n / 8)) (colChunk B (2 * (n % 8) + 1))) T)) := by
  refine h.step_flags hj _ _ ?_ ?_
  · rw [h.thr hj, hi, show 2 * (n % 8) = 8 + 2 * (n % 8 - 4) by omega]; rfl
  · rw [h.thr hj, hi, show 2 * (n % 8) + 1 = 8 + (2 * (n % 8 - 4) + 1) by omega]; rfl

/-- After a block of generated columns, at a later block of rows. -/
theorem Inv.stepD (h : Inv A B n S T H) (hj : 4 ≤ n % 8) (hi : 0 < n / 8) (i1 i2) :
    Inv A B (n + 1) S T (putAt (putAt H ((n % 8 - 4) * 1024)
        (k0_pay11 (rowBlock A (n / 8)) (colChunk B (2 * (n % 8))) T (getAt 512 H ((n % 8 - 4) * 1024) i1)))
      ((n % 8 - 4) * 1024 + 512) (k0_pay3 (k0_pay12 (rowBlock A (n / 8)) (colChunk B (2 * (n % 8) + 1))) T
        (getAt 512 H ((n % 8 - 4) * 1024 + 512) i2))) := by
  obtain ⟨e, he⟩ : ∃ e, n / 8 = e + 1 := ⟨n / 8 - 1, by omega⟩
  have hn8 : n % 8 < 8 := Nat.mod_lt _ (by decide)
  have g1 : getAt 512 H ((n % 8 - 4) * 1024) i1 = flags A B (2 * (n % 8 - 4)) e := by
    funext y
    refine (h.hit (2 * (n % 8 - 4)) e (y 0) (y 1) _ (by omega) ?_ ?_).trans (congrArg _ (eq_ix2 y).symm)
    · unfold joined; rw [if_neg (by omega)]; omega
    · show _ + _ = _; omega
  have g2 : getAt 512 H ((n % 8 - 4) * 1024 + 512) i2 = flags A B (2 * (n % 8 - 4) + 1) e := by
    funext y
    refine (h.hit (2 * (n % 8 - 4) + 1) e (y 0) (y 1) _ (by omega) ?_ ?_).trans (congrArg _ (eq_ix2 y).symm)
    · unfold joined; rw [if_neg (by omega)]; omega
    · show _ + _ = _; omega
  refine h.step_flags hj _ _ ?_ ?_
  · rw [h.thr hj, g1, he, show 2 * (n % 8) = 8 + 2 * (n % 8 - 4) by omega]; rfl
  · rw [h.thr hj, g2, he, show 2 * (n % 8) + 1 = 8 + (2 * (n % 8 - 4) + 1) by omega]; rfl

/-- After the last point the flags are all there. -/
theorem Inv.last (h : Inv A B 64 S T H) : H = allFlags A B := by
  funext y
  have hy : (y 1).val < 4096 := (y 1).isLt
  have ey : y = ix2 (n0 := 1) (n1 := 4096) (y 0) (y 1) := eq_ix2 y
  conv_lhs => rw [ey]
  exact h.hit ((y 1).val / 512) 7 (y 0) ⟨(y 1).val % 512, Nat.mod_lt _ (by decide)⟩ (y 1) (by omega) (by unfold joined; rw [if_neg (by omega)])
    (Nat.div_add_mod (y 1).val 512).symm

end Cert.KernelIdeal.Hand

end
-- ==== Proof.IBody.lean ====
/- The kernel's body at a grid point, told as the launch wants it: from the two blocks the point is given and scratch
   buffers in the state reached so far, to the state one point further on. -/
module

public import proofs.«01_k».proof.Proof.Gen.KernelIdeal.Frame
public import proofs.«01_k».proof.Proof.IRun
public import proofs.«01_k».proof.Proof.IState
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Band

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The real points, and all columns' points: the real ones and then the generated ones. -/
abbrev rowsOf (c : Dev nD) : Vec F S4096x2048 .f32 := V m c main_arg0
abbrev colsOf (c : Dev nD) : Vec F S8192x2048 .f32 := V m c main_call0_v0

/-! ## The blocks a point is given -/

theorem N_eq : cfg0.N = 64 := N_0

theorem index0_eq (t : Fin cfg0.N) : (cfg0.win 0).index t 0 = t.val / 8 := by
  have ht : t.val < 64 := Nat.lt_of_lt_of_eq t.isLt N_eq
  show (BitVec.ofNat 32 (grid0.coords t 0).val).toNat = _
  rw [coords0, BitVec.toNat_ofNat]; omega
theorem index1_eq (t : Fin cfg0.N) : (cfg0.win 1).index t 0 = t.val % 8 := by
  show (BitVec.ofNat 32 (grid0.coords t 1).val).toNat = _
  rw [coords1, BitVec.toNat_ofNat]; omega

theorem iblk0_eq (c : Dev nD) (t : Fin cfg0.N) : iblk m c 0 t = rowBlock (rowsOf m c) (t.val / 8) := by
  have ht : t.val < 64 := Nat.lt_of_lt_of_eq t.isLt N_eq
  have i0 : (cfg0.win 0).index t 0 = t.val / 8 := index0_eq t
  have i1 : (cfg0.win 0).index t 1 = 0 := rfl
  funext y
  show V m c main_arg0 (((cfg0.win 0).blk t).view.emb y) = V m c main_arg0 _
  blk_ext [i0, i1]

theorem iblk1_lo (c : Dev nD) (t : Fin cfg0.N) :
    rowsAt 512 (iblk m c 1 t : Vec F S1024x2048 .f32) 0 (by decide) = colChunk (colsOf m c) (2 * (t.val % 8)) := by
  have ht : t.val < 64 := Nat.lt_of_lt_of_eq t.isLt N_eq
  have i0 : (cfg0.win 1).index t 0 = t.val % 8 := index1_eq t
  have i1 : (cfg0.win 1).index t 1 = 0 := rfl
  funext y
  show V m c main_call0_v0 (((cfg0.win 1).blk t).view.emb _) = V m c main_call0_v0 _
  blk_ext [i0, i1]

theorem iblk1_hi (c : Dev nD) (t : Fin cfg0.N) :
    rowsAt 512 (iblk m c 1 t : Vec F S1024x2048 .f32) 512 (by decide) = colChunk (colsOf m c) (2 * (t.val % 8) + 1) := by
  have ht : t.val < 64 := Nat.lt_of_lt_of_eq t.isLt N_eq
  have i0 : (cfg0.win 1).index t 0 = t.val % 8 := index1_eq t
  have i1 : (cfg0.win 1).index t 1 = 0 := rfl
  funext y
  show V m c main_call0_v0 (((cfg0.win 1).blk t).view.emb _) = V m c main_call0_v0 _
  blk_ext [i0, i1]

/-! ## The state between points -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
abbrev scM0_0 : Memref sig .tc .vmem S512x4096 .f32 := Memref.whole cc0_scratch0
abbrev scM0_1 : Memref sig .tc .vmem S512x1 .f32 := Memref.whole cc0_scratch1
abbrev scM0_2 : Memref sig .tc .vmem S1x4096 .f32 := Memref.whole cc0_scratch2

/-- The scratch buffers at anything, buffer by buffer. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)
        ∗ (∃ d, owns (c : Thread nD τ) scM0_2 fullShare d)) ∗ (∃ r, prngReg c r)) := by
  unfold Pipeline.ΦA; rw [scopedRest0_eq]; simp only [scM0_0, scM0_1, scM0_2, owns_whole]; try rfl

/-- Before point `n`: the scratch buffers in the state reached by then. -/
def PhiS (c : Dev nD) (n : ℕ) (_ : n ≤ cfg0.N) : sProp 𝕄 :=
  iprop(∃ S T H, ⌜Inv (rowsOf m c) (colsOf m c) n S T H⌝ ∗ owns (c : Thread nD τ) scM0_0 fullShare S
    ∗ owns (c : Thread nD τ) scM0_1 fullShare T ∗ owns (c : Thread nD τ) scM0_2 fullShare H ∗ (∃ r, prngReg c r))

/-- The number the kernel writes. -/
def fraction (c : Dev nD) : Elt F .f32 := k0_pay4 (allFlags (rowsOf m c) (colsOf m c))

/-- What every window holds after every point, and the state between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => fraction m c
    | ⟨_ + 3, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fun _ => fraction m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem leaves0 (c : Dev nD) (t : Fin cfg0.N) :
    (dats m 0 c).leavesExact 0 t = owns (c : Thread nD τ) (ms0_0 t) fullShare (iblk m c 0 t) := by
  rw [← after0_0]
theorem leaves1 (c : Dev nD) (t : Fin cfg0.N) :
    (dats m 0 c).leavesExact 1 t = owns (c : Thread nD τ) (ms0_1 t) fullShare (iblk m c 1 t) := by
  rw [← after0_1]

/-- Before the last point the result's buffer is given back as it was found, -/
theorem leaves2_mid (c : Dev nD) (t : Fin cfg0.N) (h : ¬ k0_cond10 (grid0.coords t) = 1#1) (ht : t.val ≠ 63) :
    (dats m 0 c).leavesExact 2 t = iprop(∃ d, owns (c : Thread nD τ) (ms0_2 t) fullShare ((dats m 0 c).before 2 t d)) := by
  refine (dats m 0 c).leavesExact_idle 2 t ?_ ?_
  · show (!decide (k0_cond10 (grid0.coords t) = 1#1)) = true
    rw [decide_eq_false h]; rfl
  · have ht' : t.val < 64 := Nat.lt_of_lt_of_eq t.isLt N_eq
    refine Bool.eq_false_iff.2 fun hf => ?_
    have := (flush0_2 t).1 hf
    omega

/-- and at the last point it holds the result. -/
theorem leaves2_last (c : Dev nD) (t : Fin cfg0.N) (h : k0_cond10 (grid0.coords t) = 1#1) :
    (dats m 0 c).leavesExact 2 t = owns (c : Thread nD τ) (ms0_2 t) fullShare (fun _ => fraction m c) := by
  have hi : cfg0.idle 2 (grid0.coords t) = false := by
    show (!decide (k0_cond10 (grid0.coords t) = 1#1)) = false
    rw [decide_eq_true h]; rfl
  unfold Dat.leavesExact
  rw [hi, after0_2]; try rfl

/-! ## The body -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem sound_A (c : Dev nD) (t : Fin cfg0.N) (hj : t.val % 8 < 3) :
    bodyPre m c t ⊢ wp frame (wpE (defs₀ (F := F)) Variants.none c none) Set.univ (bodyAt0 t) (fun _ => bodyPost m c t) := by
  have ht : t.val < 64 := Nat.lt_of_lt_of_eq t.isLt N_eq
  have e0 := coords0 t
  have e1 := coords1 t
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, Phi_castSucc, leaves0, leaves1, leaves2_mid m c t (mt (cond10_iff _).1 (by omega)) (by omega)]
  unfold PhiS
  iintro ⟨⟨%S, %T, %H, %hI, HS, HT, HH, Hg⟩, Ho, ⟨%d0, H0⟩, ⟨%d1, H1⟩, H2⟩
  iapply (runA c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((cond1_iff _).2 (by omega)) (mt (cond2_iff _).1 (by omega)) ((cond5_iff _).2 (by omega)) (mt (cond6_iff _).1 (by omega)) (mt (cond9_iff _).1 (by omega)) (mt (cond10_iff _).1 (by omega)) (by omega) (iblk m c 0 t) (iblk m c 1 t) S)
  isplitl [H0]; · iexact H0
  isplitl [H1]; · iexact H1
  isplitl [HS]; · iexact HS
  iintro ⟨H0, H1, HS⟩
  isplitl [HS HT HH Hg]
  · iexists _; iexists T; iexists H
    isplitr
    swap
    · isplitl [HS]; · iexact HS
      isplitl [HT]; · iexact HT
      isplitl [HH]; · iexact HH
      iexact Hg
    ipureintro
    have key : ∀ j, j = t.val % 8 → Inv (rowsOf m c) (colsOf m c) (t.val + 1) (putAt (putAt S (j * 1024) (k0_pay8 (iblk m c 0 t) (rowsAt 512 (iblk m c 1 t : Vec F S1024x2048 .f32) 0 (by decide)))) (j * 1024 + 512) (k0_pay13 (iblk m c 0 t) (rowsAt 512 (iblk m c 1 t : Vec F S1024x2048 .f32) 512 (by decide)))) T H := by
      rintro j rfl
      rw [iblk0_eq, iblk1_lo, iblk1_hi]
      exact hI.stepA hj
    exact key _ e1
  isplitl [Ho]; · iexact Ho
  isplitl [H0]; · iexact H0
  isplitl [H1]; · iexact H1
  iexact H2

theorem sound_B (c : Dev nD) (t : Fin cfg0.N) (hj : t.val % 8 = 3) :
    bodyPre m c t ⊢ wp frame (wpE (defs₀ (F := F)) Variants.none c none) Set.univ (bodyAt0 t) (fun _ => bodyPost m c t) := by
  have ht : t.val < 64 := Nat.lt_of_lt_of_eq t.isLt N_eq
  have e0 := coords0 t
  have e1 := coords1 t
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, Phi_castSucc, leaves0, leaves1, leaves2_mid m c t (mt (cond10_iff _).1 (by omega)) (by omega)]
  unfold PhiS
  iintro ⟨⟨%S, %T, %H, %hI, HS, HT, HH, Hg⟩, Ho, ⟨%d0, H0⟩, ⟨%d1, H1⟩, H2⟩
  iapply (runB c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((cond1_iff _).2 (by omega)) (mt (cond2_iff _).1 (by omega)) ((cond5_iff _).2 (by omega)) (mt (cond6_iff _).1 (by omega)) ((cond9_iff _).2 (by omega)) (mt (cond10_iff _).1 (by omega)) (by omega) (iblk m c 0 t) (iblk m c 1 t) S)
  isplitl [H0]; · iexact H0
  isplitl [H1]; · iexact H1
  isplitl [HS]; · iexact HS
  isplitl [HT]; · iexists T; iexact HT
  iintro ⟨H0, H1, HS, HT⟩
  isplitl [HS HT HH Hg]
  · iexists _; iexists _; iexists H
    isplitr
    swap
    · isplitl [HS]; · iexact HS
      isplitl [HT]; · iexact HT
      isplitl [HH]; · iexact HH
      iexact Hg
    ipureintro
    have key : ∀ j, j = t.val % 8 → Inv (rowsOf m c) (colsOf m c) (t.val + 1) (putAt (putAt S (j * 1024) (k0_pay8 (iblk m c 0 t) (rowsAt 512 (iblk m c 1 t : Vec F S1024x2048 .f32) 0 (by decide)))) (j * 1024 + 512) (k0_pay13 (iblk m c 0 t) (rowsAt 512 (iblk m c 1 t : Vec F S1024x2048 .f32) 512 (by decide))))
        (k0_pay5 (iblk m c 0 t) (putAt (putAt S (j * 1024) (k0_pay8 (iblk m c 0 t) (rowsAt 512 (iblk m c 1 t : Vec F S1024x2048 .f32) 0 (by decide)))) (j * 1024 + 512) (k0_pay13 (iblk m c 0 t) (rowsAt 512 (iblk m c 1 t : Vec F S1024x2048 .f32) 512 (by decide))))) H := by
      rintro j rfl
      rw [iblk0_eq, iblk1_lo, iblk1_hi]
      exact hI.stepB hj
    exact key _ e1
  isplitl [Ho]; · iexact Ho
  isplitl [H0]; · iexact H0
  isplitl [H1]; · iexact H1
  iexact H2

theorem sound_C (c : Dev nD) (t : Fin cfg0.N) (hj : 4 ≤ t.val % 8) (hi : t.val / 8 = 0) :
    bodyPre m c t ⊢ wp frame (wpE (defs₀ (F := F)) Variants.none c none) Set.univ (bodyAt0 t) (fun _ => bodyPost m c t) := by
  have ht : t.val < 64 := Nat.lt_of_lt_of_eq t.isLt N_eq
  have e0 := coords0 t
  have e1 := coords1 t
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, Phi_castSucc, leaves0, leaves1, leaves2_mid m c t (mt (cond10_iff _).1 (by omega)) (by omega)]
  unfold PhiS
  iintro ⟨⟨%S, %T, %H, %hI, HS, HT, HH, Hg⟩, Ho, ⟨%d0, H0⟩, ⟨%d1, H1⟩, H2⟩
  iapply (runC c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (mt (cond1_iff _).1 (by omega)) ((cond2_iff _).2 (by omega)) ((cond3_iff _).2 (by omega)) (mt (cond4_iff _).1 (by omega)) (mt (cond5_iff _).1 (by omega)) ((cond6_iff _).2 (by omega)) ((cond7_iff _).2 (by omega)) (mt (cond8_iff _).1 (by omega)) (mt (cond9_iff _).1 (by omega)) (mt (cond10_iff _).1 (by omega)) (by omega) (iblk m c 0 t) (iblk m c 1 t) T H)
  isplitl [H0]; · iexact H0
  isplitl [H1]; · iexact H1
  isplitl [HT]; · iexact HT
  isplitl [HH]; · iexact HH
  iintro ⟨H0, H1, HT, HH⟩
  have key : ∀ j, j = t.val % 8 → Inv (rowsOf m c) (colsOf m c) (t.val + 1) S T (putAt (putAt H ((j - 4) * 1024) (k0_pay10 (iblk m c 0 t) (rowsAt 512 (iblk m c 1 t : Vec F S1024x2048 .f32) 0 (by decide)) T)) ((j - 4) * 1024 + 512) (k0_pay2 (k0_pay12 (iblk m c 0 t) (rowsAt 512 (iblk m c 1 t : Vec F S1024x2048 .f32) 512 (by decide))) T)) := by
    rintro j rfl
    rw [iblk0_eq, iblk1_lo, iblk1_hi]
    exact hI.stepC hj hi
  have hI' := key _ e1
  isplitl [HS HT HH Hg]
  · iexists S; iexists T; iexists _
    isplitr
    swap
    · isplitl [HS]; · iexact HS
      isplitl [HT]; · iexact HT
      isplitl [HH]; · iexact HH
      iexact Hg
    ipureintro
    exact hI'
  isplitl [Ho]; · iexact Ho
  isplitl [H0]; · iexact H0
  isplitl [H1]; · iexact H1
  iexact H2

theorem sound_D (c : Dev nD) (t : Fin cfg0.N) (hj : 4 ≤ t.val % 8) (hi : 0 < t.val / 8) (hl : t.val ≠ 63) :
    bodyPre m c t ⊢ wp frame (wpE (defs₀ (F := F)) Variants.none c none) Set.univ (bodyAt0 t) (fun _ => bodyPost m c t) := by
  have ht : t.val < 64 := Nat.lt_of_lt_of_eq t.isLt N_eq
  have e0 := coords0 t
  have e1 := coords1 t
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, Phi_castSucc, leaves0, leaves1, leaves2_mid m c t (mt (cond10_iff _).1 (by omega)) (by omega)]
  unfold PhiS
  iintro ⟨⟨%S, %T, %H, %hI, HS, HT, HH, Hg⟩, Ho, ⟨%d0, H0⟩, ⟨%d1, H1⟩, H2⟩
  iapply (runD c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (mt (cond1_iff _).1 (by omega)) ((cond2_iff _).2 (by omega)) (mt (cond3_iff _).1 (by omega)) ((cond4_iff _).2 (by omega)) (mt (cond5_iff _).1 (by omega)) ((cond6_iff _).2 (by omega)) (mt (cond7_iff _).1 (by omega)) ((cond8_iff _).2 (by omega)) (mt (cond9_iff _).1 (by omega)) (mt (cond10_iff _).1 (by omega)) (by omega) (iblk m c 0 t) (iblk m c 1 t) T H)
  isplitl [H0]; · iexact H0
  isplitl [H1]; · iexact H1
  isplitl [HT]; · iexact HT
  isplitl [HH]; · iexact HH
  iintro ⟨H0, H1, HT, HH⟩
  have key : ∀ j, j = t.val % 8 → ∀ i1 i2, Inv (rowsOf m c) (colsOf m c) (t.val + 1) S T (putAt (putAt H ((j - 4) * 1024) (k0_pay11 (iblk m c 0 t) (rowsAt 512 (iblk m c 1 t : Vec F S1024x2048 .f32) 0 (by decide)) T (getAt 512 H ((j - 4) * 1024) i1))) ((j - 4) * 1024 + 512) (k0_pay3 (k0_pay12 (iblk m c 0 t) (rowsAt 512 (iblk m c 1 t : Vec F S1024x2048 .f32) 512 (by decide))) T (getAt 512 H ((j - 4) * 1024 + 512) i2))) := by
    rintro j rfl i1 i2
    rw [iblk0_eq, iblk1_lo, iblk1_hi]
    exact hI.stepD hj hi i1 i2
  have hI' := key _ e1 (by have : (grid0.coords t 1).val < 8 := (grid0.coords t 1).isLt; omega) (by have : (grid0.coords t 1).val < 8 := (grid0.coords t 1).isLt; omega)
  isplitl [HS HT HH Hg]
  · iexists S; iexists T; iexists _
    isplitr
    swap
    · isplitl [HS]; · iexact HS
      isplitl [HT]; · iexact HT
      isplitl [HH]; · iexact HH
      iexact Hg
    ipureintro
    exact hI'
  isplitl [Ho]; · iexact Ho
  isplitl [H0]; · iexact H0
  isplitl [H1]; · iexact H1
  iexact H2

theorem sound_E (c : Dev nD) (t : Fin cfg0.N) (hl : t.val = 63) :
    bodyPre m c t ⊢ wp frame (wpE (defs₀ (F := F)) Variants.none c none) Set.univ (bodyAt0 t) (fun _ => bodyPost m c t) := by
  have ht : t.val < 64 := Nat.lt_of_lt_of_eq t.isLt N_eq
  have e0 := coords0 t
  have e1 := coords1 t
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, Phi_castSucc, leaves0, leaves1, leaves2_last m c t ((cond10_iff _).2 (by omega))]
  unfold PhiS
  iintro ⟨⟨%S, %T, %H, %hI, HS, HT, HH, Hg⟩, Ho, ⟨%d0, H0⟩, ⟨%d1, H1⟩, H2⟩
  iapply (runE c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (mt (cond1_iff _).1 (by omega)) ((cond2_iff _).2 (by omega)) (mt (cond3_iff _).1 (by omega)) ((cond4_iff _).2 (by omega)) (mt (cond5_iff _).1 (by omega)) ((cond6_iff _).2 (by omega)) (mt (cond7_iff _).1 (by omega)) ((cond8_iff _).2 (by omega)) (mt (cond9_iff _).1 (by omega)) ((cond10_iff _).2 (by omega)) (by omega) (iblk m c 0 t) (iblk m c 1 t) T H)
  isplitl [H0]; · iexact H0
  isplitl [H1]; · iexact H1
  isplitl [H2]; · icases H2 with ⟨%d2, H2⟩; iexists _; iexact H2
  isplitl [HT]; · iexact HT
  isplitl [HH]; · iexact HH
  iintro ⟨H0, H1, H2, HT, HH⟩
  have key : ∀ j, j = t.val % 8 → ∀ i1 i2, Inv (rowsOf m c) (colsOf m c) (t.val + 1) S T (putAt (putAt H ((j - 4) * 1024) (k0_pay11 (iblk m c 0 t) (rowsAt 512 (iblk m c 1 t : Vec F S1024x2048 .f32) 0 (by decide)) T (getAt 512 H ((j - 4) * 1024) i1))) ((j - 4) * 1024 + 512) (k0_pay3 (k0_pay12 (iblk m c 0 t) (rowsAt 512 (iblk m c 1 t : Vec F S1024x2048 .f32) 512 (by decide))) T (getAt 512 H ((j - 4) * 1024 + 512) i2))) := by
    rintro j rfl i1 i2
    rw [iblk0_eq, iblk1_lo, iblk1_hi]
    exact hI.stepD (by omega) (by omega) i1 i2
  have hI' := key _ e1 (by have : (grid0.coords t 1).val < 8 := (grid0.coords t 1).isLt; omega) (by have : (grid0.coords t 1).val < 8 := (grid0.coords t 1).isLt; omega)
  isplitl [HS HT HH Hg]
  · iexists S; iexists T; iexists _
    isplitr
    swap
    · isplitl [HS]; · iexact HS
      isplitl [HT]; · iexact HT
      isplitl [HH]; · iexact HH
      iexact Hg
    ipureintro
    exact hI'
  isplitl [Ho]; · iexact Ho
  isplitl [H0]; · iexact H0
  isplitl [H1]; · iexact H1
  have hv : fraction m c = _ := congrArg k0_pay4 (Inv.last (by rw [show (64 : ℕ) = t.val + 1 by omega]; exact hI')).symm
  rw [hv]
  iexact H2

/-- The body at any point. -/
theorem sound_body (c : Dev nD) (t : Fin cfg0.N) :
    bodyPre m c t ⊢ wp frame (wpE (defs₀ (F := F)) Variants.none c none) Set.univ (bodyAt0 t) (fun _ => bodyPost m c t) := by
  have ht : t.val < 64 := Nat.lt_of_lt_of_eq t.isLt N_eq
  by_cases h3 : t.val % 8 < 3
  · exact sound_A m c t h3
  by_cases h4 : t.val % 8 = 3
  · exact sound_B m c t h4
  by_cases h0 : t.val / 8 = 0
  · exact sound_C m c t (by omega) h0
  by_cases hl : t.val = 63
  · exact sound_E m c t hl
  · exact sound_D m c t (by omega) (by omega) hl

end Cert.KernelIdeal.Hand

end
-- ==== Proof.ILaunch.lean ====
/- The launch: every run of the kernel's program ends, with every counter at zero and its arguments unchanged, and
   leaves the number the flags come to. -/
module

public import proofs.«01_k».proof.Proof.IBody
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Band

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_row (t : Fin cfg0.N) : defs₀ (F := F) .tc cfg0.body (cfg0.bodyArgs t (cfg0.slots t)) = bodyAt0 t := by
  unfold defs₀; rw [Defs.onTc_tc]

/-- What the launch asks of the body. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The scratch buffers at anything are in the state before the first point, -/
theorem enter (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%S, HS⟩, ⟨%T, HT⟩, ⟨%H, HH⟩⟩, Hg⟩
  iexists S; iexists T; iexists H
  isplitr
  swap
  · isplitl [HS]; · iexact HS
    isplitl [HT]; · iexact HT
    isplitl [HH]; · iexact HH
    iexact Hg
  ipureintro
  exact Inv.init S T H

/-- and their contents after the last are forgotten. -/
theorem leave (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%S, %T, %H, -, HS, HT, HH, Hg⟩
  isplitl [HS HT HH]
  · isplitl [HS]
    · iexists _; iexact HS
    isplitl [HT]
    · iexists _; iexact HT
    iexists _; iexact HH
  iexact Hg

set_option backward.isDefEq.respectTransparency.types false in
set_option maxHeartbeats 800000 in
/-- Every run of the program ends, with every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- Its arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_post m ρ)

/-- and the counters are at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiescent m ρ))

/-- The array the kernel writes holds its one number. -/
theorem out_eq (c : Dev nD) : (dats m 0 c).arrAt 2 (cfgs 0).N = fun _ => fraction m c := by
  refine (dats m 0 c).arrAt_eq_of_covers 2 _ (by decide +kernel) fun t hf y => ?_
  blk_simp
  rw [after0_2]
  try rfl

theorem W_main_v0 (c : Dev nD) : Pipeline.afterTail₀ cfgs (dats m) 0 (V0 m) [hostOps1] c main_v0 = fun _ => fraction m c := by
  unfold Pipeline.afterTail₀
  generalize hσ : Pipeline.withArrays _ _ _ _ = σ
  have h1 : σ (Proc.devRef .tc main_call0_v1) = fun _ => fraction m c := by
    rw [← hσ]
    exact (Pipeline.withArrays_arr spec0 launch0.win.arr_inj c _ _ 2).trans (out_eq m c)
  have h2 : StableHlo.after ([hostOps1] : List (List (HloOp τ sig (Elt F)))).flatten σ (Proc.devRef .tc main_v0)
      = shapeCast S_ (σ (Proc.devRef .tc main_call0_v1)) shapeCasts_S1x1_S_ := by
    simp only [List.flatten_cons, List.flatten_nil, List.append_nil, hostOps1, StableHlo.after_cons, StableHlo.after_nil]
    exact StableHlo.reshape_result' _ _ _ _ _
  rw [h2, h1]
  rfl

/-- The program's result is that number. -/
theorem value : θ_run defs (onTc (τ := τ) (main (F := F))) ⟨m, fun _ => 0, ρ⟩ (fun r => ∀ c : Dev nD,
      r.2.mem ((c.tc : Thread nD τ).loc main_v0) = (fun _ => fraction m c)) :=
  (θ_run defs _ _).mono (fun _ h c => ((h c).2 main_v0 (Pipeline.mem_restRefs_of main_v0 (by decide) (by decide))).trans (W_main_v0 m c)) (run_post m ρ)

/-- All columns' points are the real points and then the generated ones. -/
theorem colsOf_eq (c : Dev nD) : colsOf m c = concatenate S8192x2048 0
    [⟨S4096x2048, m ((c : Thread nD τ).loc main_arg0)⟩, ⟨S4096x2048, m ((c : Thread nD τ).loc main_arg1)⟩] concatenates_S4096x2048_S4096x2048_S8192x2048_d0 := by
  unfold colsOf
  entry_read
  rfl

end Cert.KernelIdeal.Hand

end
-- ==== Proof.Near.lean ====
/- Nearest neighbours by score. Over the extended reals: what one query row decides when it compares distances against the
   sixth smallest distance of its row, and what it decides when it compares scores (inner product minus half the squared
   norm) against the largest score left after removing the five largest. Under the hypothesis that the six smallest
   distances are strictly increasing and every entry is a real number, the two decisions agree. No program here. -/
module

public import Idealize.ShloMosaic.PureOps.Ideal.Laws
public import Idealize.ShloMosaic.Lib.SortFacts
public import Mathlib.Analysis.SpecialFunctions.Pow.NNReal

@[expose] public section

noncomputable section

namespace Cert.Near

open Idealize.ShloMosaic

/-! ## Removing the largest entries of a row -/

section Remove
variable {n : Nat}

/-- The largest entry of a row. -/
def rowMax (f : Fin n → EReal) : EReal := Finset.univ.fold max ⊥ f

/-- The row with its largest entries set to the bottom. -/
def cut (f : Fin n → EReal) : Fin n → EReal := fun t => if rowMax f ≤ f t then ⊥ else f t

theorem rowMax_eq_of (f : Fin n → EReal) (a : EReal) (hle : ∀ t, f t ≤ a) (t : Fin n) (ht : f t = a) : rowMax f = a := by
  refine le_antisymm ?_ ?_
  · unfold rowMax
    rw [Finset.fold_max_le]
    exact ⟨bot_le, fun t _ => hle t⟩
  · unfold rowMax
    rw [Finset.le_fold_max]
    exact Or.inr ⟨t, Finset.mem_univ t, ht.ge⟩

/-- The row with the entries at the first `p` places of the order `σ` set to the bottom. -/
def mask (σ : Equiv.Perm (Fin n)) (p : Nat) (f : Fin n → EReal) : Fin n → EReal :=
  fun t => if (σ.symm t).val < p then ⊥ else f t

theorem rowMax_mask (σ : Equiv.Perm (Fin n)) (f : Fin n → EReal) (p : Fin n)
    (h : ∀ q, p ≤ q → f (σ q) ≤ f (σ p)) : rowMax (mask σ p.val f) = f (σ p) := by
  refine rowMax_eq_of _ _ (fun t => ?_) (σ p) ?_
  · unfold mask
    split
    · exact bot_le
    · rename_i hp
      have := h (σ.symm t) (Fin.le_def.mpr (Nat.le_of_not_lt hp))
      rwa [Equiv.apply_symm_apply] at this
  · simp [mask]

theorem cut_mask (σ : Equiv.Perm (Fin n)) (f : Fin n → EReal) (p : Fin n)
    (h : ∀ q, p < q → f (σ q) < f (σ p)) : cut (mask σ p.val f) = mask σ (p.val + 1) f := by
  have hm : rowMax (mask σ p.val f) = f (σ p) :=
    rowMax_mask σ f p fun q hq => by
      rcases hq.eq_or_lt with e | l
      · rw [e]
      · exact (h q l).le
  funext t
  unfold cut
  rw [hm]
  unfold mask
  rcases lt_trichotomy (σ.symm t).val p.val with l | e | g
  · rw [if_pos l, if_pos (Nat.lt_succ_of_lt l)]
    split <;> rfl
  · have et : σ p = t := by
      have : σ.symm t = p := Fin.ext e
      rw [← this, Equiv.apply_symm_apply]
    simp only [e, lt_irrefl, if_false, et, le_refl, if_true, Nat.lt_succ_self]
  · have hs := h (σ.symm t) (Fin.lt_def.mpr g)
    rw [Equiv.apply_symm_apply] at hs
    simp only [if_neg (show ¬(σ.symm t).val < p.val by omega), if_neg (show ¬(σ.symm t).val < p.val + 1 by omega), if_neg (not_le.mpr hs)]

/-- After the five largest entries are removed one after the other, each strictly above all that follow it, the largest
    entry left is the sixth. -/
theorem rowMax_cut_five (σ : Equiv.Perm (Fin n)) (f : Fin n → EReal) (hn : 6 ≤ n)
    (hs : ∀ p : Fin n, p.val < 5 → ∀ q, p < q → f (σ q) < f (σ p))
    (h5 : ∀ q : Fin n, 5 ≤ q.val → f (σ q) ≤ f (σ ⟨5, by omega⟩)) :
    rowMax (cut (cut (cut (cut (cut f))))) = f (σ ⟨5, by omega⟩) := by
  have h0 : f = mask σ 0 f := by funext t; simp [mask]
  have c0 := cut_mask σ f ⟨0, by omega⟩ (hs _ (show (0 : Nat) < 5 by decide))
  have c1 := cut_mask σ f ⟨1, by omega⟩ (hs _ (show (1 : Nat) < 5 by decide))
  have c2 := cut_mask σ f ⟨2, by omega⟩ (hs _ (show (2 : Nat) < 5 by decide))
  have c3 := cut_mask σ f ⟨3, by omega⟩ (hs _ (show (3 : Nat) < 5 by decide))
  have c4 := cut_mask σ f ⟨4, by omega⟩ (hs _ (show (4 : Nat) < 5 by decide))
  simp only [Nat.zero_add, Nat.reduceAdd] at c0 c1 c2 c3 c4
  conv_lhs => rw [h0, c0, c1, c2, c3, c4]
  exact rowMax_mask σ f ⟨5, by omega⟩ fun q hq => h5 q (Fin.le_def.mp hq)

end Remove

/-! ## Distances and scores -/

variable {d : Nat}

/-- The squared norm of a row. -/
def normSq (x : Fin d → EReal) : EReal := ∑ k, x k * x k

/-- The inner product of two rows. -/
def inner (x y : Fin d → EReal) : EReal := ∑ k, x k * y k

/-- The distance of two rows, by the squared norms and the inner product. -/
def dist (x y : Fin d → EReal) : EReal :=
  Ideal.sqrt (max 0 ((normSq x + normSq y) - ((2 : ℝ) : EReal) * inner x y))

/-- The score of a column row `y` for the query row `x`. -/
def score (x y : Fin d → EReal) : EReal := inner x y - ((1 / 2 : ℝ) : EReal) * normSq y

/-- The score a column row has to reach: the sixth largest score, and at most half the query row's squared norm. -/
def threshold {n : Nat} (X : Fin n → Fin d → EReal) (x : Fin d → EReal) : EReal :=
  min (rowMax (cut (cut (cut (cut (cut fun t => score x (X t))))))) (((1 / 2 : ℝ) : EReal) * normSq x)

/-! ### On real entries -/

theorem coe_sum (g : Fin d → ℝ) : ((∑ k, g k : ℝ) : EReal) = ∑ k, (g k : EReal) := by
  induction (Finset.univ : Finset (Fin d)) using Finset.induction_on with
  | empty => simp
  | insert a s ha ih => rw [Finset.sum_insert ha, Finset.sum_insert ha, EReal.coe_add, ih]

theorem inner_coe (x y : Fin d → ℝ) : inner (fun k => (x k : EReal)) (fun k => (y k : EReal)) = ((∑ k, x k * y k : ℝ) : EReal) := by
  rw [coe_sum]
  exact Finset.sum_congr rfl fun k _ => (EReal.coe_mul _ _).symm

theorem normSq_coe (x : Fin d → ℝ) : normSq (fun k => (x k : EReal)) = ((∑ k, x k * x k : ℝ) : EReal) := inner_coe x x

theorem sqrt_max_coe (r : ℝ) : Ideal.sqrt (max 0 (r : EReal)) = ((Real.sqrt r : ℝ) : EReal) := by
  have h : max 0 (r : EReal) = ((max 0 r : ℝ) : EReal) := by
    rw [← EReal.coe_zero]; exact (EReal.coe_strictMono.monotone.map_max).symm
  rw [h]
  show (if max 0 r < 0 then ⊥ else ((Real.sqrt (max 0 r) : ℝ) : EReal)) = _
  rw [if_neg (not_lt.mpr (le_max_left 0 r))]
  rcases le_total 0 r with p | p
  · rw [max_eq_right p]
  · rw [max_eq_left p, Real.sqrt_eq_zero_of_nonpos p, Real.sqrt_zero]

/-- The squared distance of two rows of real numbers, as the distance takes it. -/
def sqr (x y : Fin d → ℝ) : ℝ := ((∑ k, x k * x k) + ∑ k, y k * y k) - 2 * ∑ k, x k * y k

theorem dist_coe (x y : Fin d → ℝ) :
    dist (fun k => (x k : EReal)) (fun k => (y k : EReal)) = ((Real.sqrt (sqr x y) : ℝ) : EReal) := by
  unfold dist
  rw [normSq_coe, normSq_coe, inner_coe, ← EReal.coe_add, ← EReal.coe_mul, ← EReal.coe_sub, sqrt_max_coe]
  rfl

theorem score_coe (x y : Fin d → ℝ) :
    score (fun k => (x k : EReal)) (fun k => (y k : EReal)) = ((((∑ k, x k * x k) - sqr x y) / 2 : ℝ) : EReal) := by
  unfold score
  rw [normSq_coe, inner_coe, ← EReal.coe_mul, ← EReal.coe_sub]
  congr 1
  unfold sqr
  ring

/-! ### The two decisions -/

section Decide
variable {n : Nat}

/-- What a row's sort key is: the distance negated. -/
def key (X : Fin n → Fin d → EReal) (x : Fin d → EReal) (t : Fin n) : EReal := -dist x (X t)

/-- `σ` lists the row's keys in descending order, the first six strictly. -/
structure Sorted (X : Fin n → Fin d → EReal) (x : Fin d → EReal) (σ : Equiv.Perm (Fin n)) : Prop where
  desc : ∀ p q, p < q → key X x (σ q) ≤ key X x (σ p)
  strict : ∀ p q : Fin n, p.val < 5 → q.val = p.val + 1 → key X x (σ q) < key X x (σ p)

theorem Sorted.lt {X : Fin n → Fin d → EReal} {x : Fin d → EReal} {σ : Equiv.Perm (Fin n)} (h : Sorted X x σ)
    (p q : Fin n) (hp : p.val < 5) (hq : p < q) : key X x (σ q) < key X x (σ p) := by
  have hl := Fin.lt_def.mp hq
  have h1 := h.strict p ⟨p.val + 1, by omega⟩ hp rfl
  rcases (Nat.succ_le_of_lt hl).eq_or_lt with e | l
  · have : q = ⟨p.val + 1, by omega⟩ := Fin.ext e.symm
    rw [this]; exact h1
  · exact (h.desc ⟨p.val + 1, by omega⟩ q (Fin.lt_def.mpr l)).trans_lt h1

/-- Over real rows: a column row reaches the threshold exactly when it is at most as far as the sixth nearest row. -/
theorem near_iff_coe (X : Fin n → Fin d → ℝ) (x y : Fin d → ℝ) (hn : 6 ≤ n) (σ : Equiv.Perm (Fin n))
    (h : Sorted (fun t k => (X t k : EReal)) (fun k => (x k : EReal)) σ) :
    threshold (fun t k => (X t k : EReal)) (fun k => (x k : EReal)) ≤ score (fun k => (x k : EReal)) (fun k => (y k : EReal))
      ↔ dist (fun k => (x k : EReal)) (fun k => (y k : EReal))
          ≤ -key (fun t k => (X t k : EReal)) (fun k => (x k : EReal)) (σ ⟨5, by omega⟩) := by
  have hkey : ∀ t, key (fun t k => (X t k : EReal)) (fun k => (x k : EReal)) t = ((-Real.sqrt (sqr x (X t)) : ℝ) : EReal) := by
    intro t; unfold key; rw [dist_coe, EReal.coe_neg]
  have hlt : ∀ p q : Fin n, p.val < 5 → p < q → sqr x (X (σ p)) < sqr x (X (σ q)) := by
    intro p q hp hq
    have := h.lt p q hp hq
    rw [hkey, hkey, EReal.coe_lt_coe_iff, neg_lt_neg_iff] at this
    by_contra hc
    exact absurd (Real.sqrt_le_sqrt (not_lt.mp hc)) (not_le.mpr this)
  have hpos : 0 < sqr x (X (σ ⟨5, by omega⟩)) := by
    have := h.lt ⟨0, by omega⟩ ⟨5, by omega⟩ (show (0 : Nat) < 5 by decide) (Fin.lt_def.mpr (show (0 : Nat) < 5 by decide))
    rw [hkey, hkey, EReal.coe_lt_coe_iff, neg_lt_neg_iff] at this
    exact Real.sqrt_pos.mp ((Real.sqrt_nonneg _).trans_lt this)
  have h5 : ∀ q : Fin n, 5 ≤ q.val → sqr x (X (σ ⟨5, by omega⟩)) ≤ sqr x (X (σ q)) := by
    intro q hq
    rcases hq.eq_or_lt with e | l
    · have : q = ⟨5, by omega⟩ := Fin.ext e.symm
      rw [this]
    · have := h.desc ⟨5, by omega⟩ q (Fin.lt_def.mpr l)
      rw [hkey, hkey, EReal.coe_le_coe_iff, neg_le_neg_iff] at this
      exact (Real.sqrt_le_sqrt_iff' hpos).mp this
  have hsel := rowMax_cut_five σ (fun t => score (fun k => (x k : EReal)) (fun k => (X t k : EReal))) hn
    (fun p hp q hq => by
      show score _ _ < score _ _
      rw [score_coe, score_coe, EReal.coe_lt_coe_iff]
      have := hlt p q hp hq
      linarith)
    (fun q hq => by
      show score _ _ ≤ score _ _
      rw [score_coe, score_coe, EReal.coe_le_coe_iff]
      have := h5 q hq
      linarith)
  unfold threshold
  rw [hsel, hkey, dist_coe]
  simp only [score_coe]
  rw [normSq_coe, ← EReal.coe_mul, ← EReal.coe_neg, neg_neg, EReal.coe_le_coe_iff, Real.sqrt_le_sqrt_iff hpos.le,
    min_eq_left (EReal.coe_le_coe_iff.mpr (by linarith)), EReal.coe_le_coe_iff]
  constructor <;> intro h <;> linarith

/-! ### Real entries from the order -/

theorem mul_self_nonneg' (a : EReal) : 0 ≤ a * a := by
  induction a with
  | bot => simp
  | top => simp
  | coe r => rw [← EReal.coe_mul]; exact_mod_cast mul_self_nonneg r

theorem normSq_nonneg (x : Fin d → EReal) : 0 ≤ normSq x := Finset.sum_nonneg fun k _ => mul_self_nonneg' (x k)

theorem normSq_top (x : Fin d → EReal) (k : Fin d) (hk : x k = ⊤ ∨ x k = ⊥) : normSq x = ⊤ := by
  have h1 : x k * x k = ⊤ := by rcases hk with h | h <;> rw [h] <;> simp
  exact top_le_iff.mp (h1 ▸ Finset.single_le_sum (f := fun k => x k * x k) (fun k _ => mul_self_nonneg' (x k)) (Finset.mem_univ k))

theorem key_of_top (X : Fin n → Fin d → EReal) (x : Fin d → EReal) (hx : normSq x = ⊤) (t : Fin n) :
    key X x t = 0 ∨ key X x t = ⊥ := by
  unfold key dist
  rw [hx, EReal.top_add_of_ne_bot (fun h => absurd (normSq_nonneg (X t)) (by rw [h]; decide))]
  by_cases hz : ((2 : ℝ) : EReal) * inner x (X t) = ⊤
  · left
    rw [hz]
    have : (⊤ : EReal) - ⊤ = ⊥ := rfl
    rw [this, max_eq_left bot_le]
    have := sqrt_max_coe 0
    rw [EReal.coe_zero, max_self, Real.sqrt_zero] at this
    rw [this]; simp
  · right
    rw [EReal.top_sub hz, max_eq_right le_top]
    rfl

/-- A query row whose first six keys strictly descend has real entries only. -/
theorem Sorted.real {X : Fin n → Fin d → EReal} {x : Fin d → EReal} {σ : Equiv.Perm (Fin n)} (h : Sorted X x σ) (hn : 6 ≤ n)
    (k : Fin d) : x k ≠ ⊤ ∧ x k ≠ ⊥ := by
  rw [← not_or]
  intro hk
  have ht := key_of_top X x (normSq_top x k hk)
  have a := h.strict ⟨0, by omega⟩ ⟨1, by omega⟩ (show (0 : Nat) < 5 by decide) rfl
  have b := h.strict ⟨1, by omega⟩ ⟨2, by omega⟩ (show (1 : Nat) < 5 by decide) rfl
  rcases ht (σ ⟨1, by omega⟩) with e | e
  · rcases ht (σ ⟨0, by omega⟩) with e' | e' <;> rw [e, e'] at a
    · exact lt_irrefl _ a
    · exact absurd a (not_lt.mpr bot_le)
  · rw [e] at b
    exact absurd b (not_lt.mpr bot_le)

/-- The two decisions agree. -/
theorem near_iff (X : Fin n → Fin d → EReal) (y : Fin d → EReal) (i : Fin n) (hn : 6 ≤ n) (σ : Fin n → Equiv.Perm (Fin n))
    (h : ∀ i, Sorted X (X i) (σ i)) (hy : ∀ k, y k ≠ ⊤ ∧ y k ≠ ⊥) :
    threshold X (X i) ≤ score (X i) y ↔ dist (X i) y ≤ -key X (X i) (σ i ⟨5, by omega⟩) := by
  obtain ⟨Z, hZ⟩ : ∃ Z : Fin n → Fin d → ℝ, X = fun t k => (Z t k : EReal) :=
    ⟨fun t k => (X t k).toReal, by
      funext t k
      exact (EReal.coe_toReal ((h t).real hn k).1 ((h t).real hn k).2).symm⟩
  obtain ⟨w, hw⟩ : ∃ w : Fin d → ℝ, y = fun k => (w k : EReal) :=
    ⟨fun k => (y k).toReal, by
      funext k
      exact (EReal.coe_toReal (hy k).1 (hy k).2).symm⟩
  subst hZ hw
  exact near_iff_coe Z (Z i) w hn (σ i) (h i)

end Decide

end Cert.Near

end
-- ==== Proof.Consts.lean ====
/- The real numbers and infinities that the programs' float constants denote, and flags as numbers. -/
module

public import Idealize.ShloMosaic.PureOps.Ideal.Laws

@[expose] public section

noncomputable section

namespace Cert.Near

open Idealize.ShloMosaic

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_count : Ideal.ofBits .f32 0x45800000#32 = ((4096 : ℝ) : EReal) := by
  simp [Ideal.ofBits, Ideal.ieee, -EReal.coe_mul]; norm_num

theorem bits_inv_count : Ideal.ofBits .f32 0x39800000#32 = ((1 / 4096 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

open Classical in
/-- One where the statement holds, zero where it does not. -/
def ind (p : Prop) : EReal := if p then 1 else 0

theorem ind_congr {p q : Prop} (h : p ↔ q) : ind p = ind q := by rw [propext h]

/-- The larger of two flags is the flag of either. -/
theorem max_ind (p q : Prop) : max (ind p) (ind q) = ind (p ∨ q) := by
  unfold ind
  by_cases hp : p <;> by_cases hq : q <;> simp [hp, hq]

/-- The largest of a row of flags is the flag of some. -/
theorem fold_ind {n : ℕ} (p : Fin n → Prop) (hn : 0 < n) :
    (Finset.univ : Finset (Fin n)).fold max ⊥ (fun r => ind (p r)) = ind (∃ r, p r) := by
  refine le_antisymm ?_ ?_
  · rw [Finset.fold_max_le]
    refine ⟨bot_le, fun r _ => ?_⟩
    by_cases h : p r
    · rw [ind, ind, if_pos h, if_pos ⟨r, h⟩]
    · rw [ind, if_neg h]; unfold ind; split <;> simp
  · rw [Finset.le_fold_max]
    right
    by_cases h : ∃ r, p r
    · obtain ⟨r, hr⟩ := h
      exact ⟨r, Finset.mem_univ r, by rw [ind, ind, if_pos hr, if_pos ⟨r, hr⟩]⟩
    · exact ⟨⟨0, hn⟩, Finset.mem_univ _, by
        rw [ind, if_neg h]; unfold ind; split <;> simp⟩

/-- A comparison's word, widened and read as an integer, is the comparison's flag. -/
theorem sitofp_oge (a b : EReal) :
    FloatOps.sitofp (F := Ideal) .f32 (BitVec.setWidth 32 (FloatOps.cmpf (F := Ideal) (φ := .f32) .oge a b)) = ind (b ≤ a) := by
  show (((BitVec.setWidth 32 (BitVec.ofBool (decide (b ≤ a)))).toInt : ℝ) : EReal) = ind (b ≤ a)
  unfold ind
  by_cases h : b ≤ a
  · rw [if_pos h, decide_eq_true h]
    rw [show (BitVec.setWidth 32 (BitVec.ofBool true)).toInt = 1 by decide]; norm_num
  · rw [if_neg h, decide_eq_false h]
    rw [show (BitVec.setWidth 32 (BitVec.ofBool false)).toInt = 0 by decide]; norm_num

/-- A selection by a comparison is the case distinction. -/
theorem select_oge {α : Type} (a b : EReal) (x y : α) :
    Scalar.select (FloatOps.cmpf (F := Ideal) (φ := .f32) .oge a b) x y = if b ≤ a then x else y := by
  show Scalar.select (BitVec.ofBool (decide (b ≤ a))) x y = _
  by_cases h : b ≤ a
  · rw [if_pos h, decide_eq_true h]; rfl
  · rw [if_neg h, decide_eq_false h]; rfl

/-- Dividing a number by the count is multiplying by its inverse. -/
theorem div_count (x : EReal) : Ideal.div x ((4096 : ℝ) : EReal) = x * ((1 / 4096 : ℝ) : EReal) := by
  unfold Ideal.div
  rw [if_neg (by exact_mod_cast (by norm_num : (4096 : ℝ) ≠ 0)), ← EReal.coe_inv]
  norm_num

end Cert.Near

end
-- ==== Proof.IPay.lean ====
/- The kernel's stored vectors over the extended reals, entry by entry: a score, a threshold, a flag, the fraction. -/
module

public import proofs.«01_k».proof.Proof.IState
public import proofs.«01_k».proof.Proof.Near
public import proofs.«01_k».proof.Proof.Consts
public import Idealize.ShloMosaic.Lib.Pointwise.Tactic
public import Idealize.ShloMosaic.Lib.Pointwise.Reduce
public import Idealize.ShloMosaic.Lib.Pointwise.Contract
public import Idealize.ShloMosaic.Lib.Pointwise.Sums
public import Idealize.ShloMosaic.Lib.Pointwise.Reshape

@[expose] public section

set_option maxRecDepth 16384

noncomputable section

namespace Cert.KernelIdeal.Hand

open Idealize.ShloMosaic
open Cert.KernelIdeal Cert.KernelIdeal.Gen Cert.Band Cert.Near

/-- Row `r` of a matrix. -/
abbrev row {n d : ℕ} (x : (⟨2, ![n, d]⟩ : Shape).Idx → EReal) (r : Fin n) : Fin d → EReal := fun k => x (ix2 r k)

/-- A block's score of two rows. -/
theorem pay7_at (x y : Vec Ideal S512x2048 .f32) (r c : Fin 512) :
    k0_pay7 x y (ix2 r c) = score (row x r) (row y c) := by
  unfold k0_pay7 k0_pay6
  pointwise
  rw [bits_half]
  rfl

/-- A block of rows with each row's largest entries set to the bottom, as the kernel writes it. -/
def cutBlock (S : Vec Ideal S512x4096 .f32) : Vec Ideal S512x4096 .f32 :=
  select (cmpf .oge S (broadcastTo S512x4096 (shapeCast S512x1 (multiReduction (F := Ideal) (φ := .f32) .maximumf [1] S512 S 0xFF800000#32 reduces_S512x4096_S512 (.inl rfl) rfl)
    shapeCasts_S512_S512x1) broadcasts_S512x1_S512x4096)) (broadcast S512x4096 (Scalar.ofBits (F := Ideal) .f32 0xFF800000#32)) S

theorem cutBlock_at (S : Vec Ideal S512x4096 .f32) (r : Fin 512) : row (cutBlock S) r = cut (row S r) := by
  funext t
  show cutBlock S (ix2 r t) = _
  unfold cutBlock
  pointwise
  rw [bits_bot, select_oge]
  rfl

/-- The smaller of each row's largest entry and half its squared norm. -/
def lessBlock (x : Vec Ideal S512x2048 .f32) (C : Vec Ideal S512x4096 .f32) : Vec Ideal S512x1 .f32 :=
  shapeCast S512x1 (minimumf (shapeCast S512x1 (multiReduction (F := Ideal) (φ := .f32) .maximumf [1] S512 C
      0xFF800000#32 reduces_S512x4096_S512 (.inl rfl) rfl) shapeCasts_S512_S512x1)
      (mulf (broadcast S512x1 (Scalar.ofBits (F := Ideal) .f32 0x3F000000#32)) (shapeCast S512x1
        (multiReduction (F := Ideal) (φ := .f32) .add [1] S512 (mulf x x) 0x00000000#32 reduces_S512x2048_S512 (.inl rfl) rfl) shapeCasts_S512_S512x1))) shapeCasts_S512x1_S512x1

theorem lessBlock_at (x : Vec Ideal S512x2048 .f32) (C : Vec Ideal S512x4096 .f32) (r : Fin 512) (z : Fin 1) :
    lessBlock x C (ix2 r z) = min (rowMax (row C r)) (((1 / 2 : ℝ) : EReal) * normSq (row x r)) := by
  unfold lessBlock
  pointwise
  rw [bits_bot, bits_half]
  rfl

theorem pay5_eq (x : Vec Ideal S512x2048 .f32) (S : Vec Ideal S512x4096 .f32) :
    k0_pay5 x S = lessBlock x (cutBlock (cutBlock (cutBlock (cutBlock (cutBlock S))))) := by
  unfold k0_pay5 lessBlock
  rfl

/-- A block's threshold of a row. -/
theorem pay5_at (x : Vec Ideal S512x2048 .f32) (S : Vec Ideal S512x4096 .f32) (r : Fin 512) (z : Fin 1) :
    k0_pay5 x S (ix2 r z) = min (rowMax (cut (cut (cut (cut (cut (row S r))))))) (((1 / 2 : ℝ) : EReal) * normSq (row x r)) := by
  rw [pay5_eq, lessBlock_at]
  simp only [cutBlock_at]

/-- A block's flag of a column. -/
theorem pay9_at (x y : Vec Ideal S512x2048 .f32) (T : Vec Ideal S512x1 .f32) (z : Fin 1) (c : Fin 512) :
    k0_pay9 x y T (ix2 z c) = ind (∃ r : Fin 512, T (ix2 r 0) ≤ score (row x r) (row y c)) := by
  unfold k0_pay9
  pointwise
  rw [bits_bot]
  simp only [sitofp_oge, pay7_at]
  exact fold_ind _ (by decide)

theorem pay10_at (x y : Vec Ideal S512x2048 .f32) (T : Vec Ideal S512x1 .f32) (z : Fin 1) (c : Fin 512) :
    k0_pay10 x y T (ix2 z c) = ind (∃ r : Fin 512, T (ix2 r 0) ≤ score (row x r) (row y c)) := by
  unfold k0_pay10
  rw [← pay9_at x y T z c]
  exact congrFun (shapeCast_self _ _) _

theorem pay11_at (x y : Vec Ideal S512x2048 .f32) (T : Vec Ideal S512x1 .f32) (H : Vec Ideal S1x512 .f32) (z : Fin 1) (c : Fin 512) :
    k0_pay11 x y T H (ix2 z c) = max (H (ix2 z c)) (ind (∃ r : Fin 512, T (ix2 r 0) ≤ score (row x r) (row y c))) := by
  unfold k0_pay11
  rw [← pay9_at x y T z c]
  exact congrFun (shapeCast_self _ _) _

/-- The fraction: the flags' sum over the count. -/
theorem pay4_at (H : Vec Ideal S1x4096 .f32) :
    k0_pay4 H = (∑ k : Fin 4096, H (ix2 0 k)) * ((1 / 4096 : ℝ) : EReal) := by
  unfold k0_pay4
  pointwise
  rw [bits_inv_count, Fin.sum_univ_one]

end Cert.KernelIdeal.Hand

end
-- ==== Proof.IValue.lean ====
/- The kernel's fraction over the extended reals, from the two arrays: how many generated rows reach some real row's
   threshold by their score, over their count. -/
module

public import proofs.«01_k».proof.Proof.IPay
public import proofs.«01_k».proof.Proof.ILaunch

@[expose] public section

set_option maxRecDepth 16384

noncomputable section

namespace Cert.KernelIdeal.Hand

open Idealize.ShloMosaic
open Cert.KernelIdeal Cert.KernelIdeal.Gen Cert.Band Cert.Near

/-- The fraction of rows of `Y` whose score reaches the threshold of some row of `X`. -/
def reached {n d : ℕ} (X Y : Fin n → Fin d → EReal) : EReal :=
  (∑ j, ind (∃ i, threshold X (X i) ≤ score (X i) (Y j))) * ((1 / 4096 : ℝ) : EReal)

section Arrays
variable (A : Vec Ideal S4096x2048 .f32) (B : Vec Ideal S8192x2048 .f32)

theorem row_rowBlock (i : ℕ) (r : Fin 512) :
    row (rowBlock A i) r = row A ⟨512 * (i % 8) + r.val, by have := r.isLt; omega⟩ := rfl

theorem row_colChunk (q : ℕ) (c : Fin 512) :
    row (colChunk B q) c = row B ⟨512 * (q % 16) + c.val, by have := c.isLt; omega⟩ := rfl

/-- A flag, joined over the first blocks of rows, is set when some of their rows is reached. -/
theorem flags_at (q n : ℕ) (z : Fin 1) (c : Fin 512) :
    flags A B q n (ix2 z c) = ind (∃ i ≤ n, ∃ r : Fin 512,
      thresholds A B i (ix2 r 0) ≤ score (row (rowBlock A i) r) (row (colChunk B (8 + q)) c)) := by
  induction n with
  | zero =>
    refine (pay10_at _ _ _ z c).trans (ind_congr ⟨fun ⟨r, h⟩ => ⟨0, le_rfl, r, h⟩, fun ⟨i, hi, r, h⟩ => ?_⟩)
    obtain rfl : i = 0 := Nat.le_zero.mp hi
    exact ⟨r, h⟩
  | succ n ih =>
    refine (pay11_at _ _ _ _ z c).trans ?_
    rw [ih, Cert.Near.max_ind]
    refine ind_congr ⟨?_, ?_⟩
    · rintro (⟨i, hi, r, h⟩ | ⟨r, h⟩)
      · exact ⟨i, Nat.le_succ_of_le hi, r, h⟩
      · exact ⟨n + 1, le_rfl, r, h⟩
    · rintro ⟨i, hi, r, h⟩
      rcases Nat.lt_or_ge n i with l | l
      · obtain rfl : i = n + 1 := by omega
        exact Or.inr ⟨r, h⟩
      · exact Or.inl ⟨i, l, r, h⟩

variable (X Y : Fin 4096 → Fin 2048 → EReal) (hA : ∀ t, row A t = X t)
  (hlo : ∀ t : Fin 4096, row B ⟨t.val, by have := t.isLt; omega⟩ = X t)
  (hhi : ∀ t : Fin 4096, row B ⟨4096 + t.val, by have := t.isLt; omega⟩ = Y t)
include hA hlo

/-- A row of the score buffer. -/
theorem scores_at (i : ℕ) (r : Fin 512) :
    row (scores A B i) r = fun t => score (row (rowBlock A i) r) (X t) := by
  funext t
  have ht := t.isLt
  show k0_pay7 (rowBlock A i) (colChunk B (t.val / 512)) (ix2 r ⟨t.val % 512, _⟩) = _
  rw [pay7_at, row_colChunk, ← hlo t]
  congr 2
  exact Fin.ext (by show 512 * (t.val / 512 % 16) + t.val % 512 = t.val; omega)

/-- A row's threshold. -/
theorem thresholds_at (i : ℕ) (r : Fin 512) :
    thresholds A B i (ix2 r 0) = threshold X (X ⟨512 * (i % 8) + r.val, by have := r.isLt; omega⟩) := by
  unfold thresholds
  rw [pay5_at, scores_at A B X hA hlo, row_rowBlock, hA]
  rfl

include hhi

/-- A generated row's flag, after all the blocks. -/
theorem allFlags_at (z : Fin 1) (j : Fin 4096) :
    allFlags A B (ix2 z j) = ind (∃ i, threshold X (X i) ≤ score (X i) (Y j)) := by
  have hj := j.isLt
  show flags A B (j.val / 512) 7 (ix2 z ⟨j.val % 512, _⟩) = _
  rw [flags_at, row_colChunk]
  have e : row B ⟨512 * ((8 + j.val / 512) % 16) + j.val % 512, by omega⟩ = Y j := by
    rw [← hhi j]
    congr 1
    exact Fin.ext (by show 512 * ((8 + j.val / 512) % 16) + j.val % 512 = 4096 + j.val; omega)
  rw [e]
  refine ind_congr ⟨?_, ?_⟩
  · rintro ⟨i, _, r, h⟩
    rw [thresholds_at A B X hA hlo, row_rowBlock, hA] at h
    exact ⟨_, h⟩
  · rintro ⟨i, h⟩
    have hi := i.isLt
    refine ⟨i.val / 512, by omega, ⟨i.val % 512, Nat.mod_lt _ (by decide)⟩, ?_⟩
    rw [thresholds_at A B X hA hlo, row_rowBlock, hA]
    have e2 : (⟨512 * (i.val / 512 % 8) + i.val % 512, by omega⟩ : Fin 4096) = i :=
      Fin.ext (by show 512 * (i.val / 512 % 8) + i.val % 512 = i.val; omega)
    rw [e2]
    exact h

theorem fraction_at : k0_pay4 (allFlags A B) = reached X Y := by
  refine (pay4_at _).trans ?_
  unfold reached
  rw [Finset.sum_congr rfl fun j _ => allFlags_at A B X Y hA hlo hhi 0 j]

end Arrays

/-- The kernel's fraction, from its arguments. -/
theorem fraction_eq (m : (ℓ : Loc nD τ sig) → Buf (Elt Ideal) ℓ) (c : Dev nD) (A B : Vec Ideal S4096x2048 .f32)
    (hA : m ((c.tc : Thread nD τ).loc main_arg0) = A) (hB : m ((c.tc : Thread nD τ).loc main_arg1) = B) :
    fraction m c = reached (row A) (row B) := by
  have h0 : rowsOf m c = A := (V_main_arg0 m c).trans hA
  have h1 := colsOf_eq m c
  rw [hA, hB] at h1
  unfold fraction
  rw [h0]
  refine fraction_at A (colsOf m c) (row A) (row B) (fun _ => rfl) (fun t => funext fun k => ?_) (fun t => funext fun k => ?_)
  · show colsOf m c (ix2 _ k) = A (ix2 t k)
    rw [h1]
    refine concatenate_pair_apply_left (t := S8192x2048) (0 : Fin 2) A B _ _ rfl (ix2 t k) fun b => ?_
    match b with
    | ⟨0, _⟩ => rfl
    | ⟨1, _⟩ => rfl
  · show colsOf m c (ix2 _ k) = B (ix2 t k)
    rw [h1]
    refine concatenate_pair_apply_right (t := S8192x2048) (0 : Fin 2) A B _ _ rfl rfl (ix2 t k) (fun b hb => ?_) (Nat.add_comm _ _)
    match b, hb with
    | ⟨0, _⟩, hb => exact absurd rfl hb
    | ⟨1, _⟩, _ => rfl

end Cert.KernelIdeal.Hand

end
-- ==== Proof.RValue.lean ====
/- The reference over the extended reals, entry by entry: the matrix of distances, the sorted keys of a row, a row's
   radius, a generated row's flag, the fraction. -/
module

public import proofs.«01_k».proof.Proof.Gen.ReferenceIdeal.Run
public import Idealize.ShloMosaic.Lib.Quiescent
public import proofs.«01_k».proof.Proof.Near
public import proofs.«01_k».proof.Proof.Consts
public import Idealize.ShloMosaic.Lib.Pipeline.Value
public import Idealize.ShloMosaic.Lib.SortFacts
public import Idealize.ShloMosaic.Lib.Pointwise.Tactic
public import Idealize.ShloMosaic.Lib.Pointwise.Reduce
public import Idealize.ShloMosaic.Lib.Pointwise.Contract
public import Idealize.ShloMosaic.Lib.Pointwise.Sums
public import Idealize.ShloMosaic.Lib.Pointwise.Reshape

@[expose] public section

set_option maxRecDepth 16384

noncomputable section

namespace Cert.ReferenceIdeal.Hand

open Idealize.ShloMosaic
open Cert.ReferenceIdeal Cert.ReferenceIdeal.Facts₀ Cert.Near

/-- The matrix of distances, as the reference writes it. -/
def distMat (A B : FVec Ideal S4096x2048 .f32) : FVec Ideal S4096x4096 .f32 :=
  Host.sqrt (maximumf (broadcastInDim S4096x4096 ![] bcast_S_S4096x4096 (id (constant S_ .f32 0x00000000#32))) (subf (addf (broadcastInDim S4096x4096 ![0, 1] bcast_S4096x1_S4096x4096_0_1 (broadcastInDim S4096x1 ![0] bcast_S4096_S4096x1_0 (Host.reduceAdd (mulf A A) (constant S_ .f32 0x00000000#32) reducesTo_S4096x2048_S4096_d1 h_S_))) (broadcastInDim S4096x4096 ![0, 1] bcast_S1x4096_S4096x4096_0_1 (transpose S1x4096 [1, 0] (broadcastInDim S4096x1 ![0] bcast_S4096_S4096x1_0 (Host.reduceAdd (mulf B B) (constant S_ .f32 0x00000000#32) reducesTo_S4096x2048_S4096_d1 h_S_)) transposes_S4096x1_S1x4096_1_0))) (mulf (broadcastInDim S4096x4096 ![] bcast_S_S4096x4096 (constant S_ .f32 0x40000000#32)) (Host.dotGeneral dot_S4096x2048_S2048x4096_S4096x4096_1_0_0_1_n_n none A (transpose S2048x4096 [1, 0] B transposes_S4096x2048_S2048x4096_1_0)))))

theorem distMat_at (A B : FVec Ideal S4096x2048 .f32) (i j : Fin 4096) :
    distMat A B (ix2 i j) = dist (fun k : Fin 2048 => A (ix2 i k)) (fun k : Fin 2048 => B (ix2 j k)) := by
  unfold distMat
  pointwise
  show Ideal.sqrt (max (Ideal.ofBits .f32 0#32) _) = _
  rw [Ideal.ofBits_zero, bits_two]
  rfl

/-- The keys by which a row's neighbours are sorted, as the reference writes them. -/
def keyMat (A : FVec Ideal S4096x2048 .f32) : FVec Ideal S4096x4096 .f32 := Host.negf (distMat A A)

theorem keyMat_at (A : FVec Ideal S4096x2048 .f32) (i t : Fin 4096) :
    keyMat A (ix2 i t)
      = key (fun (r : Fin 4096) (k : Fin 2048) => A (ix2 r k)) (fun k : Fin 2048 => A (ix2 i k)) t := by
  show -(distMat A A (ix2 i t)) = _
  rw [distMat_at]
  rfl

/-- Which of two positions of a row comes first: the one with the greater entry. -/
def before (K : S4096x4096.Idx → EReal) (i : Fin 4096) (k k' : Fin 4096) : Bool :=
  FloatOps.cmpfTotal (F := Ideal) (φ := .f32) .gt (K (ix2 i k)) (K (ix2 i k')) == 1#1

/-- A comes before B exactly when its entry is the greater. -/
theorem before_iff (K : S4096x4096.Idx → EReal) (i k k' : Fin 4096) :
    before K i k k' = true ↔ K (ix2 i k') < K (ix2 i k) := by
  unfold before
  show (BitVec.ofBool (decide (K (ix2 i k') < K (ix2 i k))) == 1#1) = true ↔ _
  by_cases h : K (ix2 i k') < K (ix2 i k) <;> simp [h]

theorem before_eq_false (K : S4096x4096.Idx → EReal) (i k k' : Fin 4096) :
    before K i k k' = false ↔ K (ix2 i k) ≤ K (ix2 i k') := by
  rw [← Bool.not_eq_true, before_iff, not_lt]

theorem source_bijective {n : ℕ} (b : Fin n → Fin n → Bool) : Function.Bijective (sortedFrom b) :=
  ⟨sortedFrom_injective b, sortedFrom_surjective b⟩

/-- The permutation that sorts positions by a comparison. -/
def sorting {n : ℕ} (b : Fin n → Fin n → Bool) : Equiv.Perm (Fin n) :=
  Equiv.ofBijective (sortedFrom b) (source_bijective b)

theorem sorting_apply {n : ℕ} (b : Fin n → Fin n → Bool) (p : Fin n) : sorting b p = sortedFrom b p := by
  unfold sorting
  exact Equiv.ofBijective_apply _ _ p

/-- The first result of a sort of two arrays, at an index. -/
theorem sort2_fst {s : Shape} {d : ℕ} (hd : d < s.rank) {α β : Type} (cmp : α × β → α × β → BitVec 1)
    (x : s.Idx → α) (y : s.Idx → β) (j : s.Idx) :
    (Host.sort2 s d cmp x y).1 j
      = x (j.along ⟨d, hd⟩ (sortedFrom (fun k k' => cmp (x (j.along ⟨d, hd⟩ k), y (j.along ⟨d, hd⟩ k))
          (x (j.along ⟨d, hd⟩ k'), y (j.along ⟨d, hd⟩ k')) == 1#1) (j ⟨d, hd⟩))) := by
  unfold Host.sort2
  rw [dif_pos hd]

attribute [local irreducible] sortedFrom sorting

/-- The order in which a row is sorted. -/
def order (K : S4096x4096.Idx → EReal) (i : Fin 4096) : Equiv.Perm (Fin 4096) := sorting (before K i)

theorem order_apply (K : S4096x4096.Idx → EReal) (i p : Fin 4096) : order K i p = sortedFrom (before K i) p := by
  unfold order
  exact sorting_apply _ p

/-- Along the order the entries do not grow. -/
theorem order_desc (K : S4096x4096.Idx → EReal) (i p q : Fin 4096) (h : p < q) :
    K (ix2 i (order K i q)) ≤ K (ix2 i (order K i p)) := by
  have hlt : ∀ a b : Fin 4096, before K i a b = true → before K i b a = false := by
    intro a b hab
    rw [before_iff] at hab
    rw [before_eq_false]
    exact hab.le
  have htr : ∀ a b c : Fin 4096, before K i b a = false → before K i c b = false → before K i c a = false := by
    intro a b c hab hbc
    rw [before_eq_false] at *
    exact hbc.trans hab
  have key := sortedFrom_noInversion (before K i) (before K i) hlt (fun _ _ h => h)
    (fun a b c hab hbc => htr c b a hbc hab) p q h
  rw [before_eq_false] at key
  rw [order_apply, order_apply]
  exact key

/-- Setting a pair's second coordinate. -/
theorem along_one (i p k : Fin 4096) :
    Shape.Idx.along (s := S4096x4096) (ix2 i p) (1 : Fin 2) k = ix2 i k := by
  funext a
  fin_cases a <;> rfl

/-- The first six of a row's positions. -/
def pos (p : Fin 6) : Fin 4096 := ⟨p.val, p.isLt.trans (show 6 < 4096 by decide)⟩

/-- A matrix sorted along its rows, the greatest entry first. -/
theorem sort_at {β : Type} (K : S4096x4096.Idx → EReal) (y : S4096x4096.Idx → β) (i p : Fin 4096) :
    (Host.sort2 S4096x4096 1 (fun l r => FloatOps.cmpfTotal (F := Ideal) (φ := .f32) .gt l.1 r.1) K y).1 (ix2 i p)
      = K (ix2 i (order K i p)) := by
  have hb : (fun k k' : Fin 4096 => FloatOps.cmpfTotal (F := Ideal) (φ := .f32) .gt
      (K (Shape.Idx.along (s := S4096x4096) (ix2 i p) (1 : Fin 2) k))
      (K (Shape.Idx.along (s := S4096x4096) (ix2 i p) (1 : Fin 2) k')) == 1#1) = before K i := by
    funext k k'
    rw [along_one, along_one]
    rfl
  rw [sort2_fst (show 1 < S4096x4096.rank by decide), order_apply, ← hb]
  exact congrArg K (along_one i p _)

/-- The six greatest entries of a row, in the order of the row. -/
theorem topK_at (K : FVec Ideal S4096x4096 .f32) (h : S4096x4096.Slices (fun _ => 0) S4096x6) (i : Fin 4096) (p : Fin 6) :
    (Host.topK S4096x6 1 (FloatOps.cmpfTotal (F := Ideal) (φ := .f32) .gt) K h).1 (ix2 i p)
      = K (ix2 i (order K i (pos p))) := by
  unfold Host.topK
  rw [← sort_at K (fun i => if hd : 1 < S4096x4096.rank then iotaInDim S4096x4096 32 ⟨1, hd⟩ i else 0#32) i (pos p)]
  dsimp only
  refine extractStridedSlice_apply (s := S4096x4096) (fun _ => 0) _ h (ix2 i p) (ix2 i (pos p)) ?_
  intro a
  fin_cases a
  · exact (Nat.zero_add _).symm
  · exact (Nat.zero_add _).symm

/-- Reading the "or" of flags as a number. -/
theorem toNat_fold_or {n : ℕ} (f : Fin n → BitVec 1) :
    ((((Finset.univ : Finset (Fin n)).fold IntOp.ori 0#1 f).toNat : ℝ) : EReal) = ind (∃ r, f r = 1#1) := by
  classical
  have hf : ∀ s : Finset (Fin n), s.fold IntOp.ori 0#1 f = if ∃ r ∈ s, f r = 1#1 then 1#1 else 0#1 := by
    intro s
    induction s using Finset.induction_on with
    | empty => simp
    | insert a s ha ih =>
      rw [Finset.fold_insert ha, ih]
      rcases (show f a = 0#1 ∨ f a = 1#1 by generalize f a = w; revert w; decide) with h | h
      · by_cases hs : ∃ r ∈ s, f r = 1#1
        · rw [if_pos hs, if_pos (by obtain ⟨r, hr, e⟩ := hs; exact ⟨r, Finset.mem_insert_of_mem hr, e⟩), h]; rfl
        · rw [if_neg hs, if_neg, h]
          · rfl
          · rintro ⟨r, hr, e⟩
            rcases Finset.mem_insert.1 hr with rfl | hr
            · rw [h] at e; exact absurd e (by decide)
            · exact hs ⟨r, hr, e⟩
      · rw [if_pos (c := ∃ r ∈ insert a s, f r = 1#1) ⟨a, Finset.mem_insert_self a s, h⟩, h]
        split <;> rfl
  rw [hf]
  unfold ind
  by_cases h : ∃ r, f r = 1#1
  · rw [if_pos h, if_pos (by obtain ⟨r, e⟩ := h; exact ⟨r, Finset.mem_univ r, e⟩)]; norm_num
  · rw [if_neg h, if_neg (by rintro ⟨r, _, e⟩; exact h ⟨r, e⟩)]; norm_num

/-- A row's radius, as the reference writes it: the sixth of the sorted keys, negated. -/
def radii (A : FVec Ideal S4096x2048 .f32) : FVec Ideal S4096 .f32 :=
  Host.negf (shapeCast S4096 (extractStridedSlice S4096x1 ![0, 5] ((Host.topK S4096x6 1 (FloatOps.cmpfTotal .gt) (keyMat A) sliceFits_S4096x4096_S4096x6).1) slices_S4096x6_S4096x1_0_5) shapeCasts_S4096x1_S4096)

theorem radii_at (A : FVec Ideal S4096x2048 .f32) (i : Fin 4096) :
    radii A (ix1 i) = -(keyMat A (ix2 i (order (keyMat A) i (pos 5)))) := by
  rw [← topK_at (keyMat A) sliceFits_S4096x4096_S4096x6 i 5]
  unfold radii
  pointwise

/-- The reference's result. -/
def share (A B : FVec Ideal S4096x2048 .f32) : FVec Ideal S_ .f32 :=
  Host.divf (Host.reduceAdd (uitofp .f32 (Host.reduce IntOp.ori (cmpf .ole (distMat A B) (broadcastInDim S4096x4096 ![0, 1] bcast_S4096x1_S4096x4096_0_1 (broadcastInDim S4096x1 ![0] bcast_S4096_S4096x1_0 (radii A)))) (constantI S_ 1 0#1) reducesTo_S4096x4096_S4096_d0 h_S_)) (constant S_ .f32 0x00000000#32) reducesTo_S4096_S_d0 h_S_) (constant S_ .f32 0x45800000#32)

theorem share_at (A B : FVec Ideal S4096x2048 .f32) (z : S_.Idx) :
    share A B z = Ideal.div (∑ j : Fin 4096, ind (∃ i : Fin 4096, distMat A B (ix2 i j) ≤ radii A (ix1 i)))
      ((4096 : ℝ) : EReal) := by
  unfold share
  rw [show z = ix0 from funext fun a => a.elim0]
  pointwise
  rw [bits_count]
  refine congrArg (fun t => Ideal.div t ((4096 : ℝ) : EReal)) (Finset.sum_congr rfl fun j _ => ?_)
  refine (toNat_fold_or _).trans (ind_congr (exists_congr fun i => ?_))
  show BitVec.ofBool (decide (distMat A B (ix2 i j) ≤ radii A (ix1 i))) = 1#1 ↔ _
  by_cases h : distMat A B (ix2 i j) ≤ radii A (ix1 i) <;> simp [h]

/-- The fraction of the rows of the second array that a row of the first reaches, where every row's first six keys are
    in strict order and the second array is finite. -/
theorem share_eq (A B : FVec Ideal S4096x2048 .f32) (z : S_.Idx)
    (hs : ∀ i : Fin 4096, Sorted (fun (r : Fin 4096) (k : Fin 2048) => A (ix2 r k)) (fun k : Fin 2048 => A (ix2 i k))
      (order (keyMat A) i))
    (hB : ∀ (j : Fin 4096) (k : Fin 2048), B (ix2 j k) ≠ ⊤ ∧ B (ix2 j k) ≠ ⊥) :
    share A B z
      = (∑ j : Fin 4096, ind (∃ i : Fin 4096,
          threshold (fun (r : Fin 4096) (k : Fin 2048) => A (ix2 r k)) (fun k : Fin 2048 => A (ix2 i k))
            ≤ score (fun k : Fin 2048 => A (ix2 i k)) (fun k : Fin 2048 => B (ix2 j k))))
        * ((1 / 4096 : ℝ) : EReal) := by
  rw [share_at, div_count]
  refine congrArg (fun t => t * ((1 / 4096 : ℝ) : EReal)) (Finset.sum_congr rfl fun j _ => ?_)
  refine ind_congr (exists_congr fun i => ?_)
  rw [distMat_at, radii_at, keyMat_at]
  exact (near_iff (fun (r : Fin 4096) (k : Fin 2048) => A (ix2 r k)) (fun k : Fin 2048 => B (ix2 j k)) i
    (show 6 ≤ 4096 by decide) (order (keyMat A)) hs (hB j)).symm

open Idealize.SL.Sem in
/-- The reference ends with its result in place and its arguments unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v44)
        = share (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  unfold share radii keyMat distMat
  exact Value.run m ρ

open Idealize.SL.Sem in
/-- The reference ends with its arguments unchanged, and it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (value m ρ)

end Cert.ReferenceIdeal.Hand

end
-- ==== Proof.Apart.lean ====
/- What the precondition says over the extended reals: every row's first six keys are in strict order, and the second
   array is finite. -/
module

public import proofs.«01_k».proof.Defs
public import proofs.«01_k».proof.Proof.RValue

@[expose] public section

set_option maxRecDepth 16384

noncomputable section

namespace Cert.Pre_nearest_apart.Hand

open Idealize.ShloMosaic
open Cert.Pre_nearest_apart Cert.Near Cert.ReferenceIdeal.Hand

theorem shape_facts : Cert.Pre_nearest_apart.Facts where
  reducesTo_S4096x2048_S4096_d1 := by decide
  h_S_ := by decide
  bcast_S4096_S4096x1_0 := by decide
  transposes_S4096x1_S1x4096_1_0 := by decide
  bcast_S4096x1_S4096x4096_0_1 := by decide
  bcast_S1x4096_S4096x4096_0_1 := by decide
  transposes_S4096x2048_S2048x4096_1_0 := by decide
  bcast_S_S4096x4096 := by decide
  sliceFits_S4096x4096_S4096x6 := by decide
  slices_S4096x6_S4096x5_0_0 := by decide
  slices_S4096x6_S4096x5_0_1 := by decide
  bcast_S_S4096x2048 := by decide
  dot_S4096x2048_S2048x4096_S4096x4096_1_0_0_1_n_n_wf := by decide

/-- The precondition's facts about its shapes, proved. -/
instance facts : Cert.Pre_nearest_apart.Facts := shape_facts

/-- The sorted keys as the precondition takes them. -/
def top (A : FVec Ideal S4096x2048 .f32) : FVec Ideal S4096x6 .f32 :=
  (Host.topK S4096x6 1 (FloatOps.cmpfTotal .gt) (keyMat A) Facts.sliceFits_S4096x4096_S4096x6).1

theorem fn_eq (A B : FVec Ideal S4096x2048 .f32) : fn (F := Ideal) A B = fn_part1 (F := Ideal) B (top A) := by
  unfold fn top keyMat distMat
  rfl

theorem part1_fst (B : FVec Ideal S4096x2048 .f32) (T : FVec Ideal S4096x6 .f32) (i : Fin 4096) (p : Fin 5) :
    (fn_part1 (F := Ideal) B T).1 (ix2 i p)
      = BitVec.ofBool (decide (T (ix2 i p.succ) < T (ix2 i p.castSucc))) := by
  unfold fn_part1
  dsimp only
  show FloatOps.cmpf (F := Ideal) (φ := .f32) .ogt (extractStridedSlice S4096x5 ![0, 0] T _ (ix2 i p)) (extractStridedSlice S4096x5 ![0, 1] T _ (ix2 i p)) = _
  rw [extractStridedSlice_apply (s := S4096x6) ![0, 0] T _ (ix2 i p) (ix2 i p.castSucc) (by
      intro a; fin_cases a
      · exact (Nat.zero_add _).symm
      · exact (Nat.zero_add _).symm),
    extractStridedSlice_apply (s := S4096x6) ![0, 1] T _ (ix2 i p) (ix2 i p.succ) (by
      intro a; fin_cases a
      · exact (Nat.zero_add _).symm
      · exact (Nat.add_comm _ _))]
  rfl

theorem part1_snd (B : FVec Ideal S4096x2048 .f32) (T : FVec Ideal S4096x6 .f32) (j : Fin 4096) (k : Fin 2048) :
    (fn_part1 (F := Ideal) B T).2 (ix2 j k)
      = BitVec.ofBool (decide (max (B (ix2 j k)) (-(B (ix2 j k))) < ⊤)) := by
  rw [← bits_top]
  rfl

theorem ofBool_eq_one {p : Prop} [Decidable p] (h : BitVec.ofBool (decide p) = 1#1) : p := by
  by_contra hp
  rw [decide_eq_false hp] at h
  exact absurd h (by decide)

/-- Under the precondition the second array is finite. -/
theorem finite (A B : FVec Ideal S4096x2048 .f32) (h : (fn (F := Ideal) A B).2 = (fun _ => 1#1)) (j : Fin 4096)
    (k : Fin 2048) : B (ix2 j k) ≠ ⊤ ∧ B (ix2 j k) ≠ ⊥ := by
  rw [fn_eq] at h
  have hlt := ofBool_eq_one ((part1_snd B (top A) j k).symm.trans (congrFun h (ix2 j k)))
  constructor
  · intro e; rw [e] at hlt; simp at hlt
  · intro e; rw [e] at hlt; simp at hlt

/-- Under the precondition every row's first six keys are in strict order. -/
theorem sorted (A B : FVec Ideal S4096x2048 .f32) (h : (fn (F := Ideal) A B).1 = (fun _ => 1#1)) (i : Fin 4096) :
    Sorted (fun (r : Fin 4096) (k : Fin 2048) => A (ix2 r k)) (fun k : Fin 2048 => A (ix2 i k))
      (order (keyMat A) i) where
  desc p q hpq := by
    rw [← keyMat_at, ← keyMat_at]
    exact order_desc (keyMat A) i p q hpq
  strict p q hp hq := by
    rw [fn_eq] at h
    have hlt := ofBool_eq_one ((part1_fst B (top A) i ⟨p.val, hp⟩).symm.trans (congrFun h (ix2 i ⟨p.val, hp⟩)))
    unfold top at hlt
    rw [topK_at, topK_at] at hlt
    rw [← keyMat_at, ← keyMat_at]
    rw [show q = pos (Fin.succ ⟨p.val, hp⟩) from Fin.ext hq]
    exact hlt

end Cert.Pre_nearest_apart.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KLaunch
public import proofs.«01_k».proof.Proof.ILaunch
public import proofs.«01_k».proof.Proof.IValue
public import proofs.«01_k».proof.Proof.RValue
public import proofs.«01_k».proof.Proof.Apart
public import Idealize.ShloMosaic.Adequacy
public import Idealize.ShloMosaic.Init

@[expose] public section

noncomputable section

namespace Cert.Proof

open Idealize.ShloMosaic Idealize.SL.Sem

/-- Under the precondition the kernel's number is the reference's result. -/
theorem fraction_eq_share (m : (ℓ : Loc Cert.KernelIdeal.nD Cert.KernelIdeal.τ Cert.KernelIdeal.sig) → Buf (Elt Ideal) ℓ)
    (c : Dev Cert.KernelIdeal.nD) (A B : FVec Ideal Cert.ReferenceIdeal.S4096x2048 .f32)
    (hA : m ((c.tc : Thread Cert.KernelIdeal.nD Cert.KernelIdeal.τ).loc Cert.KernelIdeal.main_arg0) = A)
    (hB : m ((c.tc : Thread Cert.KernelIdeal.nD Cert.KernelIdeal.τ).loc Cert.KernelIdeal.main_arg1) = B)
    (h1 : (Cert.Pre_nearest_apart.fn (F := Ideal) A B).1 = (fun _ => 1#1))
    (h2 : (Cert.Pre_nearest_apart.fn (F := Ideal) A B).2 = (fun _ => 1#1)) (z : Cert.ReferenceIdeal.S_.Idx) :
    Cert.ReferenceIdeal.Hand.share A B z = Cert.KernelIdeal.Hand.fraction m c := by
  rw [Cert.KernelIdeal.Hand.fraction_eq m c A B hA hB]
  exact Cert.ReferenceIdeal.Hand.share_eq A B z (Cert.Pre_nearest_apart.Hand.sorted A B h1)
    (Cert.Pre_nearest_apart.Hand.finite A B h2)

/-- The value claim: kernel and reference end with the same number. -/
theorem algebraic : Cert.algebraic_KernelIdeal_ReferenceIdeal_pre_nearest_apart := by
  intro m g m' g' hpre hargs
  refine ⟨fun c => fun _ => Cert.KernelIdeal.Hand.fraction m c, ?_, ?_⟩
  · exact (θ_run _ _ _).mono (fun r h c => ⟨h.1 c, h.2 c⟩)
      (θ_run_and (Cert.KernelIdeal.Hand.value m g) (Cert.KernelIdeal.Hand.unchanged m g))
  · refine (θ_run _ _ _).mono (fun r h c => ⟨(h c).1.trans ?_, (h c).2⟩) (Cert.ReferenceIdeal.Hand.value m' g')
    rw [(hargs c).1, (hargs c).2]
    funext z
    exact fraction_eq_share m c _ _ rfl rfl (hpre c).1 (hpre c).2 z

theorem claim : Cert.Claim :=
  ⟨Cert.Kernel.Gen.facts, Cert.KernelIdeal.Gen.facts, Cert.ReferenceIdeal.Gen.facts, Cert.Pre_nearest_apart.Hand.facts,
    fun m g _ => Cert.Kernel.Hand.quiescent m g,
    fun m g _ => Cert.KernelIdeal.Hand.quiescent m g,
    fun m g _ => Cert.KernelIdeal.Hand.quiescent m g,
    fun m g _ => Cert.ReferenceIdeal.Hand.quiescent m g,
    fun m g _ => Cert.ReferenceIdeal.Hand.quiescent m g,
    trivial,
    algebraic⟩

end Cert.Proof

end
